-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S4x1024x4096 : Shape := ⟨3, ![4, 1024, 4096]⟩
abbrev S2x1024x2048 : Shape := ⟨3, ![2, 1024, 2048]⟩
abbrev S3 : Shape := ⟨1, ![3]⟩
abbrev S2 : Shape := ⟨1, ![2]⟩
abbrev S_ : Shape := ⟨0, ![]⟩
abbrev S1x1024x4096 : Shape := ⟨3, ![1, 1024, 4096]⟩
abbrev S1024x2048 : Shape := ⟨2, ![1024, 2048]⟩
abbrev S1x1024x2048 : Shape := ⟨3, ![1, 1024, 2048]⟩

abbrev nBuf : Space → Nat
  | .hbm => 5
  | .vmem => 4
  | .smem => 2
  | _ => 0

abbrev bufTy : (tb : Table) → Fin (tcTables nBuf tb) → BufTy
  | .hbm, ⟨0, _⟩ => ⟨S1024x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .fp8e5m2⟩
  | .local _ .vmem, ⟨1, _⟩ => ⟨S4096x2048, .fp8e5m2⟩
  | .local _ .vmem, ⟨2, _⟩ => ⟨S4x1024x4096, .fp8e5m2⟩
  | .local _ .vmem, ⟨3, _⟩ => ⟨S2x1024x2048, .f32⟩
  | .local _ .smem, ⟨0, _⟩ => ⟨S1, .f32⟩
  | .local _ .smem, ⟨1, _⟩ => ⟨S1, .f32⟩
  | _, _ => ⟨S1024x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_18 : BitVec 32 := 1#32
  let v20 : BitVec 32 := Scalar.muli v6 c1_i32_18
  let v21 : BitVec 32 := Scalar.addi c0_i32_19 v20
  v21.toNat
def k0_off1 (d0 : Dev nD) (c4_i32_24 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c4_i32_24
  let c4_i32_25 : BitVec 32 := 4#32
  let v31 : BitVec 32 := Scalar.remsi v30 c4_i32_25
  let c1024_i32 : BitVec 32 := 1024#32
  let v50 : BitVec 32 := Scalar.muli v31 c1024_i32
  let c0_i32_39 : BitVec 32 := 0#32
  ![v50.toNat, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_65 : BitVec 32 := 1#32
  let v70 : BitVec 32 := Scalar.muli v6 c1_i32_65
  let v71 : BitVec 32 := Scalar.addi c0_i32_66 v70
  v71.toNat
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_113 : BitVec 32 := 1#32
  let v120 : BitVec 32 := Scalar.muli v6 c1_i32_113
  let v121 : BitVec 32 := Scalar.addi c0_i32_114 v120
  v121.toNat
abbrev stage0_0 : Fin 1 → Memref sig .tc .vmem S1024x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Slots.lean ====
/-
The buffers the kernel cuts into pieces, and what holding one piece allows.

* `cM`, the communication buffer: four slots, slot `h` holding the block of `x` that has made `h` hops;
* `yM`, the staging buffer of results: two tiles, written alternately;
* `oM`, the result array: four bands of rows, one per hop.

A piece is named by the memref the kernel transfers through (`slotM`, `tileM`, `bandM`). This module proves that the
pieces of one buffer are disjoint and fill it, and gives the loads and stores of one piece as rules on `owns`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds, and this kernel's own with duties `Bool` -/

abbrev UB : Type := URounds (GSem nD τ sig) Bool
abbrev UU : Type := UR sig nD τ × UB

local notation "𝕄" => MT nD τ sig Unit (Elt F) ℕ UU ℕ

/-! ## The pieces -/

abbrev xM : Memref sig .tc .vmem S1024x4096 .fp8e5m2 := Memref.whole cc0_stg0_0
abbrev wM : Memref sig .tc .vmem S4096x2048 .fp8e5m2 := Memref.whole cc0_stg1_0
abbrev sxM : Memref sig .tc .smem S1 .f32 := Memref.whole cc0_stg2_0
abbrev swM : Memref sig .tc .smem S1 .f32 := Memref.whole cc0_stg3_0
abbrev cM : Memref sig .tc .vmem S4x1024x4096 .fp8e5m2 := Memref.whole cc0_scratch0
abbrev yM : Memref sig .tc .vmem S2x1024x2048 .f32 := Memref.whole cc0_scratch1
abbrev oM : Memref sig .tc .hbm S4096x2048 .f32 := Memref.whole main_v1

theorem slot_inb (h : Fin 4) : ∀ a, (![h.val, 0, 0] : Fin 3 → ℕ) a + S1x1024x4096.size a ≤ S4x1024x4096.size a := by
  revert h; decide
theorem tile_inb (p : Fin 2) : ∀ a, (![p.val, 0, 0] : Fin 3 → ℕ) a + S1x1024x2048.size a ≤ S2x1024x2048.size a := by
  revert p; decide

/-- Slot `h` of the communication buffer, as a rectangle and as the memref a transfer names. -/
abbrev slotR (h : Fin 4) : Rect S4x1024x4096 := Rect.unit (s := S4x1024x4096) ![h.val, 0, 0] S1x1024x4096.size (slot_inb h)
abbrev slotM (h : Fin 4) : Memref sig .tc .vmem S1024x4096 .fp8e5m2 :=
  (cM.slice (slotR h) (fun _ => rfl)).squeeze S1024x4096 squeezes_S1x1024x4096_S1024x4096

/-- Tile `p` of the staging buffer of results. -/
abbrev tileR (p : Fin 2) : Rect S2x1024x2048 := Rect.unit (s := S2x1024x2048) ![p.val, 0, 0] S1x1024x2048.size (tile_inb p)
abbrev tileM (p : Fin 2) : Memref sig .tc .vmem S1024x2048 .f32 :=
  (yM.slice (tileR p) (fun _ => rfl)).squeeze S1024x2048 squeezes_S1x1024x2048_S1024x2048

/-- Band `r` of device `c`'s result, where the kernel writes the block it multiplied at hop `3 - r`: the rows of the
    device the block came from. -/
abbrev bandR (c : Dev nD) (r : Fin 4) : Rect S4096x2048 :=
  Rect.unit (s := S4096x2048) (k0_off1 c (BitVec.ofNat 32 (1 + r.val))) S1024x2048.size (k0_off1_inb c r)
abbrev bandM (c : Dev nD) (r : Fin 4) : Memref sig .tc .hbm S1024x2048 .f32 := oM.slice (bandR c r) (fun _ => rfl)

/-! ## Disjoint, and covering -/

theorem slotM_set (h : Fin 4) : (slotM h).view.set = (slotR h).set :=
  (View.set_reshape (v := (cM.slice (slotR h) (fun _ => rfl)).view) squeezes_S1x1024x4096_S1024x4096.numel_eq).trans
    (View.set_slice_whole cc0_scratch0 (slotR h))
theorem tileM_set (p : Fin 2) : (tileM p).view.set = (tileR p).set :=
  (View.set_reshape (v := (yM.slice (tileR p) (fun _ => rfl)).view) squeezes_S1x1024x2048_S1024x2048.numel_eq).trans
    (View.set_slice_whole cc0_scratch1 (tileR p))

theorem slot_disj (h h' : Fin 4) (hne : h ≠ h') : Disjoint (slotR h).set (slotR h').set :=
  Ring.lead_disjoint (s := S4x1024x4096) (0 : Fin 3) 1 (fun h : Fin 4 => ![h.val, 0, 0]) S1x1024x4096.size slot_inb
    (by decide) rfl h h' hne
theorem slot_cover : (Finset.univ.biUnion fun h : Fin 4 => (slotR h).set) = Finset.univ :=
  Ring.lead_cover (s := S4x1024x4096) (0 : Fin 3) 1 (fun h : Fin 4 => ![h.val, 0, 0]) S1x1024x4096.size slot_inb
    (by decide) (by decide) rfl (by decide) rfl

theorem tile_disj (p p' : Fin 2) (hne : p ≠ p') : Disjoint (tileR p).set (tileR p').set :=
  Ring.lead_disjoint (s := S2x1024x2048) (0 : Fin 3) 1 (fun h : Fin 2 => ![h.val, 0, 0]) S1x1024x2048.size tile_inb
    (by decide) rfl p p' hne
theorem tile_cover : (Finset.univ.biUnion fun p : Fin 2 => (tileR p).set) = Finset.univ :=
  Ring.lead_cover (s := S2x1024x2048) (0 : Fin 3) 1 (fun h : Fin 2 => ![h.val, 0, 0]) S1x1024x2048.size tile_inb
    (by decide) (by decide) rfl (by decide) rfl

/-- The row block band `r` of device `c` is: the device whose rows it holds. -/
def bandDev (c : Dev nD) (r : Fin 4) : Dev nD := ⟨(c.val + r.val + 1) % 4, Nat.mod_lt _ (by decide)⟩

theorem bandDev_injective (c : Dev nD) : Function.Injective (bandDev c) := by revert c; decide
theorem bandDev_surjective (c : Dev nD) : Function.Surjective (bandDev c) := by revert c; decide

/-- A row lies in band `r` exactly when its quotient by 1024 is the band's row block. -/
theorem mem_band (c : Dev nD) (r : Fin 4) (i : S4096x2048.Idx) :
    i ∈ (bandR c r).set ↔ (i 0).val / 1024 = (bandDev c r).val := by
  rw [Rect.mem_set_unit, k0_off1_eq]
  constructor
  · intro h
    have h0 := h 0
    change 1024 * ((c.val + r.val + 1) % 4) ≤ (i 0).val ∧ (i 0).val < 1024 * ((c.val + r.val + 1) % 4) + 1024 at h0
    show _ = (c.val + r.val + 1) % 4
    omega
  · intro h a
    change _ = (c.val + r.val + 1) % 4 at h
    have h1 : (i 1).val < 2048 := (i 1).isLt
    have e0 : S1024x2048.size 0 = 1024 := rfl
    have e1 : S1024x2048.size 1 = 2048 := rfl
    match a with
    | 0 => show 1024 * ((c.val + r.val + 1) % 4) ≤ (i 0).val ∧ (i 0).val < 1024 * ((c.val + r.val + 1) % 4) + S1024x2048.size 0
           omega
    | 1 => show 0 ≤ (i 1).val ∧ (i 1).val < 0 + S1024x2048.size 1
           omega

theorem band_disj (c : Dev nD) (r r' : Fin 4) (hne : r ≠ r') : Disjoint (bandR c r).set (bandR c r').set := by
  rw [Finset.disjoint_left]
  intro i hi hi'
  rw [mem_band] at hi hi'
  exact hne (bandDev_injective c (Fin.ext (hi.symm.trans hi')))
theorem band_cover (c : Dev nD) : (Finset.univ.biUnion fun r : Fin 4 => (bandR c r).set) = Finset.univ := by
  ext i
  simp only [Finset.mem_biUnion, Finset.mem_univ, true_and, iff_true]
  have hi : (i 0).val < 4096 := (i 0).isLt
  obtain ⟨r, hr⟩ := bandDev_surjective c ⟨(i 0).val / 1024, by show _ < 4; omega⟩
  exact ⟨r, (mem_band c r i).mpr (by rw [hr])⟩

/-! ## A piece held at contents nobody names -/

/-- Device `c` holds the memref's elements, whatever they are. -/
def held (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)

instance held_storable (c : Dev nD) {sp : Space} {s : Shape} {e : EltTy} (M : Memref sig .tc sp s e) :
    BI.Storable (upEmb : UEmb _ 𝕄) (held (F := F) c M) := by unfold held; infer_instance

/-- Device `c` owns the memref and reads `X` through it (the library's `owns` at this kernel's resources). -/
abbrev own (c : Dev nD) {sp : Space} {s : Shape} {e : EltTy} (M : Memref sig .tc sp s e) (q : PosShare TreeShare)
    (X : s.Idx → Elt F e) : sProp 𝕄 := owns (c : Thread nD τ) M q X

theorem held_of_own (c : Dev nD) {sp : Space} {s : Shape} {e : EltTy} (M : Memref sig .tc sp s e) (X : s.Idx → Elt F e) :
    own c M fullShare X ⊢ held c M := by
  unfold own owns held
  iintro ⟨%f, -, H⟩; iexists f; iexact H

/-- Two halves of a piece. -/
theorem own_halves (c : Dev nD) {sp : Space} {s : Shape} {e : EltTy} (M : Memref sig .tc sp s e) (X : s.Idx → Elt F e) :
    own c M fullShare X ⊢ iprop(own c M fullShare.left X ∗ own c M fullShare.right X) := by
  unfold own owns
  iintro ⟨%f, %hf, H⟩
  ihave H' := (pointsTo_share (PosShare.mem_left_op_right fullShare)).1 $$ H
  icases H' with ⟨Hl, Hr⟩
  isplitl [Hl]
  · iexists f; isplitr; · ipureintro; exact hf
    iexact Hl
  · iexists f; isplitr; · ipureintro; exact hf
    iexact Hr

/-- The two halves of a piece put together again: the piece, at contents nobody names. -/
theorem held_of_halves (c : Dev nD) {sp : Space} {s : Shape} {e : EltTy} (M : Memref sig .tc sp s e) (X Y : s.Idx → Elt F e) :
    iprop(own c M fullShare.left X ∗ own c M fullShare.right Y) ⊢ held c M := by
  unfold own owns held
  iintro ⟨⟨%f, %hf, Hf⟩, ⟨%g, %hg, Hg⟩⟩
  ihave Hag := (persistent_entails_right (pointsTo_agree (q₁ := fullShare.left) (q₂ := fullShare.right))) $$ [Hf Hg]
  · isplitl [Hf]; · iexact Hf
    iexact Hg
  icases Hag with ⟨%hag, Hf, Hg⟩
  iexists f
  iapply (pointsTo_share (PosShare.mem_left_op_right fullShare)).2
  isplitl [Hf]; · iexact Hf
  rw [pointsTo_congr (fun i hi => (hag i (Finset.mem_inter.mpr ⟨hi, hi⟩)).1)]
  iexact Hg

/-! ## Cutting a buffer and putting it together -/

theorem held_slot (c : Dev nD) (h : Fin 4) : (held c (slotM h) : sProp 𝕄)
    = iprop(∃ f : Buf (Elt F) ((c : Thread nD τ).loc cc0_scratch0), ((c : Thread nD τ).loc cc0_scratch0) ↦[(slotR h).set]{fullShare} f) := by
  unfold held; rw [slotM_set]
theorem comm_cut (c : Dev nD) (f : Buf (Elt F) ((c : Thread nD τ).loc cc0_scratch0)) :
    (((c : Thread nD τ).loc cc0_scratch0) ↦{fullShare} f : sProp 𝕄) ⊢ bigSep Finset.univ fun h : Fin 4 => held c (slotM h) := by
  rw [Ring.pointsTo_blocks (fun h : Fin 4 => (slotR h).set) slot_disj slot_cover f]
  exact bigSep_mono fun h _ => (exists_intro_trans f .rfl).trans (Entails.of_eq (held_slot c h).symm)
theorem comm_join (c : Dev nD) (f₀ : Buf (Elt F) ((c : Thread nD τ).loc cc0_scratch0)) :
    (bigSep Finset.univ fun h : Fin 4 => held c (slotM h) : sProp 𝕄)
      ⊢ iprop(∃ g : Buf (Elt F) ((c : Thread nD τ).loc cc0_scratch0), ((c : Thread nD τ).loc cc0_scratch0) ↦{fullShare} g) := by
  have hj := Ring.pointsTo_blocks_join_exists (Ix := Unit) (Name := ℕ) (U := UU) (Lvl := ℕ) (Val := Elt F) (q := fullShare)
    (ℓ := (c : Thread nD τ).loc cc0_scratch0) (fun h : Fin 4 => (slotR h).set) slot_disj slot_cover f₀
  refine BIBase.Entails.trans ?_ hj
  exact bigSep_mono fun h _ => Entails.of_eq (held_slot c h)

theorem held_tile (c : Dev nD) (p : Fin 2) : (held c (tileM p) : sProp 𝕄)
    = iprop(∃ f : Buf (Elt F) ((c : Thread nD τ).loc cc0_scratch1), ((c : Thread nD τ).loc cc0_scratch1) ↦[(tileR p).set]{fullShare} f) := by
  unfold held; rw [tileM_set]
theorem tiles_cut (c : Dev nD) (f : Buf (Elt F) ((c : Thread nD τ).loc cc0_scratch1)) :
    (((c : Thread nD τ).loc cc0_scratch1) ↦{fullShare} f : sProp 𝕄) ⊢ bigSep Finset.univ fun p : Fin 2 => held c (tileM p) := by
  rw [Ring.pointsTo_blocks (fun p : Fin 2 => (tileR p).set) tile_disj tile_cover f]
  exact bigSep_mono fun p _ => (exists_intro_trans f .rfl).trans (Entails.of_eq (held_tile c p).symm)
theorem tiles_join (c : Dev nD) (f₀ : Buf (Elt F) ((c : Thread nD τ).loc cc0_scratch1)) :
    (bigSep Finset.univ fun p : Fin 2 => held c (tileM p) : sProp 𝕄)
      ⊢ iprop(∃ g : Buf (Elt F) ((c : Thread nD τ).loc cc0_scratch1), ((c : Thread nD τ).loc cc0_scratch1) ↦{fullShare} g) := by
  have hj := Ring.pointsTo_blocks_join_exists (Ix := Unit) (Name := ℕ) (U := UU) (Lvl := ℕ) (Val := Elt F) (q := fullShare)
    (ℓ := (c : Thread nD τ).loc cc0_scratch1) (fun p : Fin 2 => (tileR p).set) tile_disj tile_cover f₀
  refine BIBase.Entails.trans ?_ hj
  exact bigSep_mono fun p _ => Entails.of_eq (held_tile c p)

theorem bands_cut (c : Dev nD) (f : Buf (Elt F) ((c : Thread nD τ).loc main_v1)) :
    (((c : Thread nD τ).loc main_v1) ↦{fullShare} f : sProp 𝕄) ⊢ bigSep Finset.univ fun r : Fin 4 => held c (bandM c r) := by
  rw [← owns_whole (c : Thread nD τ) main_v1 fullShare f]
  refine (owns_rects (c : Thread nD τ) oM fullShare (bandR c) (fun _ _ => rfl) (band_disj c) (band_cover c) f).trans ?_
  exact bigSep_mono fun r _ => held_of_own c (bandM c r) _
/-- The four bands, each at its part of `X`, are the result array at `X`. -/
theorem bands_join (c : Dev nD) (X : Buf (Elt F) ((c : Thread nD τ).loc main_v1)) :
    (bigSep Finset.univ fun r : Fin 4 => own c (bandM c r) fullShare (fun j => X ((bandR c r).emb j)) : sProp 𝕄)
      ⊢ ((c : Thread nD τ).loc main_v1) ↦{fullShare} X := by
  rw [← owns_whole (c : Thread nD τ) main_v1 fullShare X]
  exact owns_of_rects (c : Thread nD τ) oM fullShare (bandR c) (fun _ _ => rfl) (band_disj c) (band_cover c) X

end Cert.KernelIdeal.RingProof

end
-- ==== Proof.KernelIdeal.Access.lean ====
/-
Loads and stores of one piece of a buffer, as rules on what the kernel owns.

A load of slot `h` (or tile `p`) reads the vector with a leading axis of size one; the kernel drops that axis with a
shape cast, and dropping it gives what the piece is owned at. A store through the same rectangle leaves the piece owned
at the stored vector without its leading axis.
-/
module

public import proofs.«01_k».proof.Proof.KernelIdeal.Slots

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`'s core, as the launch's body obligation states it. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has returned owes what is asked of its result. -/
theorem wp_done (c : Dev nD) {α : Type} {Q : α → sProp 𝕄} {a : α} : Q a ⊢ WP c (Prog.ret a) Q := by
  unfold WP; rw [wp_ret]; exact fupd_intro

theorem flatCasts : S1x1024x2048.ShapeCasts S1024x2048 := by decide

/-- A result tile without its leading axis. -/
abbrev flat (v : FVec F S1x1024x2048 .f32) : FVec F S1024x2048 .f32 :=
  shapeCast S1024x2048 v flatCasts

theorem slot_read (h : Fin 4) (f : cM.view.ty.Contents (Elt F)) :
    (slotM h).view.read (Elt F) f = k0_pay4 (cM.view.readAt (Elt F) (slotR h).toLoadRect f) :=
  Memref.read_squeeze_slice cM (slotR h) (fun _ => rfl) squeezes_S1x1024x4096_S1024x4096 shapeCasts_S1x1024x4096_S1024x4096 f

theorem tile_read (p : Fin 2) (f : yM.view.ty.Contents (Elt F)) :
    (tileM p).view.read (Elt F) f = flat (yM.view.readAt (Elt F) (tileR p).toLoadRect f) :=
  Memref.read_squeeze_slice yM (tileR p) (fun _ => rfl) squeezes_S1x1024x2048_S1024x2048 (flatCasts : S1x1024x2048.ShapeCasts S1024x2048) f

theorem slot_setOn (h : Fin 4) : cM.view.setOn (slotR h).toLoadRect.set = (slotM h).view.set :=
  ((View.set_slice (v := cM.view) (slotR h)).symm.trans (View.set_slice_whole cc0_scratch0 (slotR h))).trans (slotM_set h).symm
theorem tile_setOn (p : Fin 2) : yM.view.setOn (tileR p).toLoadRect.set = (tileM p).view.set :=
  ((View.set_slice (v := yM.view) (tileR p)).symm.trans (View.set_slice_whole cc0_scratch1 (tileR p))).trans (tileM_set p).symm

/-! ## Slots of the communication buffer -/

section Slot
variable (c : Dev nD) (h : Fin 4)

/-- A load of a slot owned at `X` gives a vector that is `X` once its leading axis is dropped. -/
theorem wp_load_slot {α : Type} {Q : α → sProp 𝕄} (q : PosShare TreeShare) (X : FVec F S1024x4096 .fp8e5m2) {hl : cM.view.LoadsAt (slotR h).toLoadRect}
    {k : Vec F S1x1024x4096 .fp8e5m2 → Prog (TpuEff nD τ sig (Elt F) Λ₀ .tc) α} :
    own c (slotM h) q X
      ⊢ iprop((∀ v, ⌜k0_pay4 v = X⌝ -∗ own c (slotM h) q X -∗ WP c (k v) Q)
          -∗ WP c (.op (.load cM (slotR h).toLoadRect hl) k) Q) := by
  unfold own owns
  iintro ⟨%f, %hf, H⟩ Hk
  iapply (wp_load 𝒱₀ (c : Thread nD τ) none Set.univ (m := cM) (r := (slotR h).toLoadRect) (S := (slotM h).view.set)
    (slot_setOn h).le) $$ H
  iintro H
  iapply Hk
  · ipureintro; rw [← hf, slot_read]
  · iexists f; isplitr; · ipureintro; exact hf
    iexact H

/-- A load of a slot whose contents nobody names. -/
theorem wp_load_held_slot {α : Type} {Q : α → sProp 𝕄} {hl : cM.view.LoadsAt (slotR h).toLoadRect}
    {k : Vec F S1x1024x4096 .fp8e5m2 → Prog (TpuEff nD τ sig (Elt F) Λ₀ .tc) α} :
    held c (slotM h)
      ⊢ iprop((∀ v, held c (slotM h) -∗ WP c (k v) Q) -∗ WP c (.op (.load cM (slotR h).toLoadRect hl) k) Q) := by
  unfold held
  iintro ⟨%f, H⟩ Hk
  iapply (wp_load 𝒱₀ (c : Thread nD τ) none Set.univ (m := cM) (r := (slotR h).toLoadRect) (S := (slotM h).view.set)
    (slot_setOn h).le) $$ H
  iintro H
  iapply Hk
  iexists f; iexact H

/-- A store of a whole slot. -/
theorem wp_store_slot {α : Type} {Q : α → sProp 𝕄} (v : Vec F S1x1024x4096 .fp8e5m2) {hx : (cM.access (slotR h)).Stores Finset.univ}
    {hm : (Finset.univ : Finset (slotR h).shape.Idx) = Finset.univ ∨ ∀ a, (slotR h).stride a = 1}
    {k : PUnit → Prog (TpuEff nD τ sig (Elt F) Λ₀ .tc) α} :
    held c (slotM h)
      ⊢ iprop((own c (slotM h) fullShare (k0_pay4 v) -∗ WP c (k ⟨⟩) Q)
          -∗ WP c (.op (.store cM (slotR h) v Finset.univ hx hm) k) Q) := by
  unfold held
  iintro ⟨%f, H⟩ Hk
  iapply (wp_store 𝒱₀ (c : Thread nD τ) none Set.univ (m := cM) (r := slotR h) (S := (slotM h).view.set) (Mk := Finset.univ)
    (by rw [slotM_set]; exact (View.set_slice_whole cc0_scratch0 (slotR h)).le)) $$ H
  iintro H
  iapply Hk
  unfold own owns
  iexists _; isplitr
  swap; · iexact H
  ipureintro
  rw [slot_read]
  exact congrArg k0_pay4 (View.read_write_univ (v := cM.access (slotR h)) f v)

end Slot

/-! ## Tiles of results -/

section Tile
variable (c : Dev nD) (p : Fin 2)

theorem wp_load_held_tile {α : Type} {Q : α → sProp 𝕄} {hl : yM.view.LoadsAt (tileR p).toLoadRect}
    {k : Vec F S1x1024x2048 .f32 → Prog (TpuEff nD τ sig (Elt F) Λ₀ .tc) α} :
    held c (tileM p)
      ⊢ iprop((∀ v, held c (tileM p) -∗ WP c (k v) Q) -∗ WP c (.op (.load yM (tileR p).toLoadRect hl) k) Q) := by
  unfold held
  iintro ⟨%f, H⟩ Hk
  iapply (wp_load 𝒱₀ (c : Thread nD τ) none Set.univ (m := yM) (r := (tileR p).toLoadRect) (S := (tileM p).view.set)
    (tile_setOn p).le) $$ H
  iintro H
  iapply Hk
  iexists f; iexact H

theorem wp_store_tile {α : Type} {Q : α → sProp 𝕄} (v : Vec F S1x1024x2048 .f32) {hx : (yM.access (tileR p)).Stores Finset.univ}
    {hm : (Finset.univ : Finset (tileR p).shape.Idx) = Finset.univ ∨ ∀ a, (tileR p).stride a = 1}
    {k : PUnit → Prog (TpuEff nD τ sig (Elt F) Λ₀ .tc) α} :
    held c (tileM p)
      ⊢ iprop((own c (tileM p) fullShare (flat v) -∗ WP c (k ⟨⟩) Q)
          -∗ WP c (.op (.store yM (tileR p) v Finset.univ hx hm) k) Q) := by
  unfold held
  iintro ⟨%f, H⟩ Hk
  iapply (wp_store 𝒱₀ (c : Thread nD τ) none Set.univ (m := yM) (r := tileR p) (S := (tileM p).view.set) (Mk := Finset.univ)
    (by rw [tileM_set]; exact (View.set_slice_whole cc0_scratch1 (tileR p)).le)) $$ H
  iintro H
  iapply Hk
  unfold own owns
  iexists _; isplitr
  swap; · iexact H
  ipureintro
  rw [tile_read]
  exact congrArg flat (View.read_write_univ (v := yM.access (tileR p)) f v)

end Tile

/-! ## Staged operands, read whole -/

section Staged
variable (c : Dev nD)

/-- A load from a buffer held whole, whose result is known to be `V`. -/
theorem wp_load_reads {α : Type} {Q : α → sProp 𝕄} {cs : CoreSpace} {s : Shape} {e : EltTy} (m : Memref sig .tc cs s e) (r : LoadRect s)
    (X : Buf (Elt F) (m.view.loc (c : Thread nD τ))) {V : r.shape.Idx → Elt F e} (hV : m.view.readAt (Elt F) r X = V)
    {hl : m.view.LoadsAt r} {k : (r.shape.Idx → Elt F e) → Prog (TpuEff nD τ sig (Elt F) Λ₀ .tc) α} :
    (m.view.loc (c : Thread nD τ) ↦{fullShare} X : sProp 𝕄)
      ⊢ iprop(((m.view.loc (c : Thread nD τ) ↦{fullShare} X) -∗ WP c (k V) Q) -∗ WP c (.op (.load m r hl) k) Q) := by
  subst hV
  exact wp_load 𝒱₀ (c : Thread nD τ) none Set.univ (Finset.subset_univ _)

theorem zeros1 : (![0] : Fin 1 → Nat) = fun _ => 0 := funext fun a => by fin_cases a; rfl
theorem zeros2 : (![0, 0] : Fin 2 → Nat) = fun _ => 0 := funext fun a => by fin_cases a <;> rfl

end Staged

end Cert.KernelIdeal.RingProof

end
-- ==== Proof.KernelIdeal.Protocol.lean ====
/-
The ring's protocol: which cell is raised by whom, how much, and what the units carry.

Every device signals both neighbours' barrier semaphore and waits for two units; the signal of the NEXT device carries
that device's three landing slots, so a transfer can only start into slots whose owner has entered the kernel. Hop `h`
then moves slot `h` of a device into slot `h + 1` of the next one: the receive cell's units carry that slot with the
block in it, and the send cell's units carry back the half of the source slot lent to the transfer (the kernel reads the
other half meanwhile). The local copies of result tiles run through two more cells, each used for two rounds: their
units carry a finished band of the result and the tile back.
-/
module

public import proofs.«01_k».proof.Proof.KernelIdeal.Access

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)

/-- The device whose block of `x` slot `h` of device `c` holds: `h` places before `c`. -/
abbrev hopDev (c : Dev nD) (h : Fin 4) : Dev nD := bandDev c h.rev

theorem hopDev_zero (c : Dev nD) : hopDev c 0 = c := by revert c; decide
theorem hopDev_nxt (c : Dev nD) (h : Fin 3) : hopDev (nxt c) h.succ = hopDev c h.castSucc := by revert c h; decide

/-! ## Contents -/

/-- Device `c`'s block of rows of `x`, and its block of columns of `w`. -/
def xBlk (c : Dev nD) : FVec F S1024x4096 .fp8e5m2 :=
  (win0_0.blk (0 : Fin 1)).view.read (Elt F) (m ((c : Thread nD τ).loc main_arg0))
def wBlk (c : Dev nD) : FVec F S4096x2048 .fp8e5m2 :=
  (win0_1.blk (0 : Fin 1)).view.read (Elt F) (m ((c : Thread nD τ).loc main_arg1))
def sxBlk (c : Dev nD) : FVec F S1 .f32 :=
  (win0_2.blk (0 : Fin 1)).view.read (Elt F) (m ((c : Thread nD τ).loc main_arg2))
def swBlk (c : Dev nD) : FVec F S1 .f32 :=
  (win0_3.blk (0 : Fin 1)).view.read (Elt F) (m ((c : Thread nD τ).loc main_arg3))

theorem one_first : 0 < S1.numel := by decide

/-- The product of the two scales, as device `c` computes it. -/
def scl (c : Dev nD) : F .f32 := k0_pay2 (sxBlk m c (Shape.Idx.first one_first)) (swBlk m c (Shape.Idx.first one_first))

/-- What slot `h` of device `c` holds once filled, -/
abbrev slotX (c : Dev nD) (h : Fin 4) : FVec F S1024x4096 .fp8e5m2 := xBlk m (hopDev c h)
/-- and the tile of results computed from it. -/
def tileX (c : Dev nD) (h : Fin 4) : FVec F S1024x2048 .f32 := flat (k0_pay5 (scl m c) (slotX m c h) (wBlk m c))

/-! ## The cells -/

/-- The barrier semaphore the runtime owns; the semaphores the kernel is given. -/
abbrev barS : Sem sig := (SemArray.scalar (sig.barrier 0 rfl) : Sems sig S_).sem
abbrev sendS (h : Fin 3) : DmaSem sig := ⟨h.val + 4, by have := h.isLt; show _ < 12; omega⟩
abbrev recvS (h : Fin 3) : DmaSem sig := ⟨h.val + 7, by have := h.isLt; show _ < 12; omega⟩
abbrev copyS (p : Fin 2) : DmaSem sig := ⟨p.val + 10, by have := p.isLt; show _ < 12; omega⟩

abbrev barC (c : Dev nD) : GSem nD τ sig := ((c : Thread nD τ), .reg barS)
abbrev sendC (c : Dev nD) (h : Fin 3) : GSem nD τ sig := ((c : Thread nD τ), .dma (sendS h))
abbrev recvC (c : Dev nD) (h : Fin 3) : GSem nD τ sig := ((c : Thread nD τ), .dma (recvS h))
abbrev copyC (c : Dev nD) (p : Fin 2) : GSem nD τ sig := ((c : Thread nD τ), .dma (copyS p))

/-- The kernel's own semaphores: send 0–2, receive 3–5, copy 6–7; -/
abbrev osem : Fin 8 → SemLoc sig := fun k => .dma ⟨k.val + 4, by have := k.isLt; show _ < 12; omega⟩
/-- all it uses: the barrier first. -/
abbrev csem : Fin 9 → SemLoc sig := Fin.cases (.reg barS) osem
abbrev kcell (ck : Dev nD × Fin 9) : GSem nD τ sig := ((ck.1 : Thread nD τ), csem ck.2)

abbrev sendK (h : Fin 3) : Fin 9 := (⟨h.val, by omega⟩ : Fin 8).succ
abbrev recvK (h : Fin 3) : Fin 9 := (⟨h.val + 3, by omega⟩ : Fin 8).succ
abbrev copyK (p : Fin 2) : Fin 9 := (⟨p.val + 6, by omega⟩ : Fin 8).succ

/-- The units a transfer of a slot, and a copy of a tile, credit. -/
abbrev N : ℕ := (slotM 0).view.dmaCredit
abbrev M : ℕ := (bandM 0 0).view.dmaCredit
theorem N_pos : 0 < N := View.dmaCredit_pos _ (by decide)
theorem M_pos : 0 < M := View.dmaCredit_pos _ (by decide)

/-! ## The schedule -/

/-- What the next device's signal brings device `c`: that device's three landing slots. -/
def barPay (c : Dev nD) : sProp 𝕄 :=
  iprop(held (F := F) (nxt c) (slotM 1) ∗ held (F := F) (nxt c) (slotM 2) ∗ held (F := F) (nxt c) (slotM 3))
/-- What the end of hop `h` brings back to its sender: the half of the source slot it lent. -/
def sendPay (c : Dev nD) (h : Fin 3) : sProp 𝕄 := own c (slotM h.castSucc) fullShare.left (slotX m c h.castSucc)
/-- What it brings the receiver: the filled slot. -/
def recvPay (c : Dev nD) (h : Fin 3) : sProp 𝕄 := own c (slotM h.succ) fullShare (slotX m c h.succ)
/-- What a local copy of hop `h`'s tile brings: the written band, and the tile. -/
def copyPay (c : Dev nD) (p : Fin 2) (h : Fin 4) : sProp 𝕄 :=
  iprop(own c (bandM c h.rev) fullShare (tileX m c h) ∗ held (F := F) c (tileM p))

/-- The hop whose tile round `r` of copy cell `p` moves: hops `p` and `p + 2`. -/
def copyHop (p : Fin 2) (r : ℕ) : Fin 4 := if r = 0 then ⟨p.val, by omega⟩ else ⟨p.val + 2, by omega⟩

def dmaPay (c : Dev nD) (r : ℕ) : ℕ → sProp 𝕄
  | 4 => sendPay m c 0 | 5 => sendPay m c 1 | 6 => sendPay m c 2
  | 7 => recvPay m c 0 | 8 => recvPay m c 1 | 9 => recvPay m c 2
  | 10 => copyPay m c 0 (copyHop 0 r) | 11 => copyPay m c 1 (copyHop 1 r)
  | _ => iprop(emp)

def semDuties (r : ℕ) : SemLoc sig → Finset Bool
  | .reg _ => if r = 0 then Finset.univ else ∅
  | .dma q => if r = 0 ∨ (r = 1 ∧ 10 ≤ q.val) then {false} else ∅
def semAmount : SemLoc sig → ℕ
  | .reg _ => 1
  | .dma q => if q.val < 10 then N else M
def semPay (c : Dev nD) (r : ℕ) (d : Bool) : SemLoc sig → sProp 𝕄
  | .reg _ => if d then barPay (F := F) c else iprop(emp)
  | .dma q => dmaPay m c r q.val

theorem semAmount_pos (sm : SemLoc sig) : 0 < semAmount sm := by
  cases sm with
  | reg _ => exact Nat.one_pos
  | dma q => unfold semAmount; dsimp only; split; exacts [N_pos, M_pos]

/-- Barrier cells: one round of two duties of one unit. Transfer cells: one round of one duty. Copy cells: two. -/
def Rd : Rounds.Schedule (GSem nD τ sig) Bool 𝕄 where
  duties g r := semDuties r g.2
  unitless _ := False
  amount g _ _ := semAmount g.2
  payload g r d := semPay m g.1.1 r d g.2
  amount_pos g _ _ _ := semAmount_pos g.2

instance Rd_payload_storable (g : GSem nD τ sig) (r : ℕ) (d : Bool) :
    BI.Storable (upEmb : UEmb _ 𝕄) ((Rd m).payload g r d) := by
  show BI.Storable upEmb (semPay m g.1.1 r d g.2)
  unfold semPay dmaPay barPay sendPay recvPay copyPay
  (repeat' split) <;> infer_instance

section Sched
variable (c : Dev nD)

theorem duties_bar : (Rd m).duties (barC c) 0 = Finset.univ := rfl
theorem duties_send (h : Fin 3) : (Rd m).duties (sendC c h) 0 = {false} := rfl
theorem duties_recv (h : Fin 3) : (Rd m).duties (recvC c h) 0 = {false} := rfl
theorem duties_copy (p r : Fin 2) : (Rd m).duties (copyC c p) r.val = {false} := by
  have := r.isLt
  exact if_pos (by have : 10 ≤ p.val + 10 := by omega
                   by_cases h : r.val = 0
                   · exact .inl h
                   · exact .inr ⟨by omega, this⟩)
/-- No cell has a duty from round 2 on; only copy cells have one in round 1. -/
theorem duties_later (g : GSem nD τ sig) : ∀ r, 2 ≤ r → (Rd m).duties g r = ∅ := by
  intro r hr
  show semDuties r g.2 = ∅
  unfold semDuties
  split <;> exact if_neg (by omega)
theorem duties_bar_later : ∀ r, 1 ≤ r → (Rd m).duties (barC c) r = ∅ := fun r hr => if_neg (by omega)
theorem duties_send_later (h : Fin 3) : ∀ r, 1 ≤ r → (Rd m).duties (sendC c h) r = ∅ := fun r hr =>
  if_neg (by have := h.isLt; show ¬ (r = 0 ∨ (r = 1 ∧ 10 ≤ h.val + 4)); omega)
theorem duties_recv_later (h : Fin 3) : ∀ r, 1 ≤ r → (Rd m).duties (recvC c h) r = ∅ := fun r hr =>
  if_neg (by have := h.isLt; show ¬ (r = 0 ∨ (r = 1 ∧ 10 ≤ h.val + 7)); omega)

theorem amount_send (h : Fin 3) (r : ℕ) (d : Bool) : (Rd m).amount (sendC c h) r d = N :=
  if_pos (by have := h.isLt; show h.val + 4 < 10; omega)
theorem amount_recv (h : Fin 3) (r : ℕ) (d : Bool) : (Rd m).amount (recvC c h) r d = N :=
  if_pos (by have := h.isLt; show h.val + 7 < 10; omega)
theorem amount_copy (p : Fin 2) (r : ℕ) (d : Bool) : (Rd m).amount (copyC c p) r d = M :=
  show (if p.val + 10 < 10 then N else M) = M from if_neg (by omega)

theorem expect_bar : (Rd m).expect (barC c) 0 = 2 := rfl
theorem expect_send (h : Fin 3) : (Rd m).expect (sendC c h) 0 = N := by
  unfold Schedule.expect Schedule.amountOf; rw [duties_send, Finset.sum_singleton, amount_send]
theorem expect_recv (h : Fin 3) : (Rd m).expect (recvC c h) 0 = N := by
  unfold Schedule.expect Schedule.amountOf; rw [duties_recv, Finset.sum_singleton, amount_recv]
theorem expect_copy (p r : Fin 2) : (Rd m).expect (copyC c p) r.val = M := by
  unfold Schedule.expect Schedule.amountOf; rw [duties_copy, Finset.sum_singleton, amount_copy]

theorem payload_bar_false : (Rd m).payload (barC c) 0 false = iprop(emp) := rfl
theorem payload_send (h : Fin 3) (r : ℕ) (d : Bool) : (Rd m).payload (sendC c h) r d = sendPay m c h := by
  fin_cases h <;> rfl
theorem payload_recv (h : Fin 3) (r : ℕ) (d : Bool) : (Rd m).payload (recvC c h) r d = recvPay m c h := by
  fin_cases h <;> rfl
theorem payload_copy (p : Fin 2) (r : ℕ) (d : Bool) : (Rd m).payload (copyC c p) r d = copyPay m c p (copyHop p r) := by
  fin_cases p <;> rfl

/-- All of a round's payloads, for each kind of cell. -/
theorem rest_bar : bigSep ((Rd m).duties (barC c) 0 \ ∅) (fun d => (Rd m).payload (barC c) 0 d) = iprop(emp ∗ barPay (F := F) c) := by
  rw [Finset.sdiff_empty, duties_bar, bigSep_univ_eq_bigSepL [false, true] (by decide) (by decide), bigSepL_cons_cons, bigSepL_singleton]
  rfl
theorem rest_send (h : Fin 3) : bigSep ((Rd m).duties (sendC c h) 0 \ ∅) (fun d => (Rd m).payload (sendC c h) 0 d) = sendPay m c h := by
  rw [Finset.sdiff_empty, duties_send, bigSep_singleton, payload_send]
theorem rest_recv (h : Fin 3) : bigSep ((Rd m).duties (recvC c h) 0 \ ∅) (fun d => (Rd m).payload (recvC c h) 0 d) = recvPay m c h := by
  rw [Finset.sdiff_empty, duties_recv, bigSep_singleton, payload_recv]
theorem rest_copy (p r : Fin 2) : bigSep ((Rd m).duties (copyC c p) r.val \ ∅) (fun d => (Rd m).payload (copyC c p) r.val d)
    = copyPay m c p (copyHop p r.val) := by
  rw [Finset.sdiff_empty, duties_copy, bigSep_singleton, payload_copy]

end Sched

/-! ## What each device owes, and the levels -/

/-- What device `c` still owes the next device's receive cells once `h` hops are under way. -/
def owed (c : Dev nD) : Fin 4 → CellTallies nD τ sig Unit
  | 0 => (0 + tallyAt (recvC (nxt c) 2) () N + tallyAt (recvC (nxt c) 1) () N) + tallyAt (recvC (nxt c) 0) () N
  | 1 => 0 + tallyAt (recvC (nxt c) 2) () N + tallyAt (recvC (nxt c) 1) () N
  | 2 => 0 + tallyAt (recvC (nxt c) 2) () N
  | 3 => 0

theorem owed_hop (c : Dev nD) (h : Fin 3) : owed c h.castSucc = owed c h.succ + tallyAt (recvC (nxt c) h) () N := by
  fin_cases h <;> rfl

/-- With the second signal due, and at the start. -/
def O₁ (c : Dev nD) : CellTallies nD τ sig Unit := owed c 0 + tallyAt (barC (nxt c)) () 1
def O₀ (c : Dev nD) : CellTallies nD τ sig Unit := O₁ c + tallyAt (barC (prv c)) () 1

def L (g : GSem nD τ sig) : Finset Unit := if g.1.2 = .tc then {()} else ∅
/-- Barrier cells at 1; the receive cell of hop `h` at `h + 2`; everything else at 0. -/
def semLv : SemLoc sig → ℕ
  | .reg _ => 1
  | .dma q => if 7 ≤ q.val ∧ q.val < 10 then q.val - 5 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to TensorCore cells above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O : CellTallies nD τ sig Unit} (hO : Above n O) (c : Dev nD) (sm : SemLoc sig) (k : ℕ) (h : n < semLv sm) :
    Above n (O + tallyAt ((c : Thread nD τ), sm) () k) := by
  intro g u hg
  rw [Pi.add_apply, Finsupp.add_apply, tallyAt_apply] at hg
  by_cases e : g = ((c : Thread nD τ), sm) ∧ u = ()
  · rw [e.1]; exact ⟨rfl, h⟩
  · rw [if_neg e, Nat.add_zero] at hg; exact hO g u hg
theorem above_mono {n k : ℕ} (h : k ≤ n) {O : CellTallies nD τ sig Unit} (hO : Above n O) : Above k O :=
  fun g u hg => ⟨(hO g u hg).1, lt_of_le_of_lt h (hO g u hg).2⟩

/-- Once `h` hops are under way only receive cells of hop `h` on are owed. -/
theorem above_owed (c : Dev nD) (h : Fin 4) : Above (h.val + 1) (owed c h) := by
  fin_cases h
  · exact above_add (above_add (above_add (above_zero _) _ _ _ (by decide)) _ _ _ (by decide)) _ _ _ (by decide)
  · exact above_add (above_add (above_zero _) _ _ _ (by decide)) _ _ _ (by decide)
  · exact above_add (above_zero _) _ _ _ (by decide)
  · exact above_zero _
theorem above_O₀ (c : Dev nD) : Above 0 (O₀ c) :=
  above_add (above_add (above_mono (Nat.zero_le _) (above_owed c 0)) _ _ _ (by decide)) _ _ _ (by decide)

/-- A device may wait on a cell of its own when everything it owes lies above that cell. -/
theorem mayWait (c : Dev nD) (sm : SemLoc sig) {O : CellTallies nD τ sig Unit} (hO : Above (semLv sm) O) :
    (levAts L lv : sProp 𝕄) ⊢ MayWait (c : Thread nD τ) sm () O :=
  MayOwe.of_cut (L := L) (lev := lv) (semLv sm)
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_rfl)
    (fun g u hg => (hO g u hg).2)

end Cert.KernelIdeal.RingProof

end
-- ==== Proof.KernelIdeal.Steps.lean ====
/-
One rule per step of the ring: a signal, the entry wait, a hop's transfer, its two waits, and a tile's copy out.

The steps share a persistent context, `ctx`: every cell's invariant, that every cell has reached round 0, and the levels.
Each rule is stated once, for any hop or tile, over the program's own transfer or wait. A send or receive cell has a
single round, so its wait also closes it and gives its counter back at zero.
-/
module

public import proofs.«01_k».proof.Proof.KernelIdeal.Protocol

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev ER : Emb UB (MT nD τ sig Unit (Elt F) ℕ UU ℕ) := embR

/-! ## The shared context -/

/-- Every cell's invariant, under the names `K` it was allocated at, and that its round 0 is reached. -/
def records (K : Dev nD × Fin 9 → ℕ) : sProp 𝕄 :=
  iprop((bigSep Finset.univ fun ck : Dev nD × Fin 9 => cellInv ER (Rd m) (K ck) (kcell ck))
    ∗ bigSep Finset.univ fun ck : Dev nD × Fin 9 => reached ER (kcell ck) 0)

instance records_persistent (K : Dev nD × Fin 9 → ℕ) : BI.Persistent (records m K) := by unfold records; infer_instance

def ctx (K : Dev nD × Fin 9 → ℕ) : sProp 𝕄 := iprop(records m K ∗ levAts L lv)

instance ctx_persistent (K : Dev nD × Fin 9 → ℕ) : BI.Persistent (ctx m K) := by unfold ctx; infer_instance

section Ctx
variable (K : Dev nD × Fin 9 → ℕ)

theorem inv_at (ck : Dev nD × Fin 9) :
    (bigSep Finset.univ fun ck : Dev nD × Fin 9 => (cellInv ER (Rd m) (K ck) (kcell ck) : sProp 𝕄)) ⊢ cellInv ER (Rd m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)
theorem ctx_inv (ck : Dev nD × Fin 9) : ctx m K ⊢ cellInv ER (Rd m) (K ck) (kcell ck) := by
  unfold ctx records
  iintro ⟨⟨HI, -⟩, -⟩
  iapply (inv_at m K ck); iexact HI
theorem ctx_reached (ck : Dev nD × Fin 9) : ctx m K ⊢ reached ER (kcell ck) 0 := by
  unfold ctx records
  iintro ⟨⟨-, HR⟩, -⟩
  iapply (reached_at (F := F) ck); iexact HR
theorem ctx_levels : ctx m K ⊢ levAts L lv := by
  unfold ctx; iintro ⟨-, H⟩; iexact H

end Ctx

/-- What device `c` owes is `O`; the waits it has made are not named. -/
def pend (c : Dev nD) (O : CellTallies nD τ sig Unit) : sProp 𝕄 := iprop(∃ W, owes (c : Thread nD τ) O W)

section Steps
variable (K : Dev nD × Fin 9 → ℕ) (c : Dev nD)

/-! ## The entry handshake -/

/-- The first signal, to the previous device: with it go the three landing slots. -/
theorem wp_signal_prv {α : Type} {Q : α → sProp 𝕄} {k : PUnit → Prog (TpuEff nD τ sig (Elt F) Λ₀ .tc) α} :
    iprop(ctx m K ∗ pend c (O₀ c) ∗ dutyTok ER (barC (prv c)) 0 true
        ∗ held (F := F) c (slotM 1) ∗ held (F := F) c (slotM 2) ∗ held (F := F) c (slotM 3))
      ⊢ iprop((pend c (O₁ c) -∗ WP c (k ⟨⟩) Q) -∗ WP c (.op (.semSignal (prv c : Thread nD τ) barS 1) k) Q) := by
  unfold pend
  iintro ⟨#Hc, ⟨%W, HO⟩, Ht, H1, H2, H3⟩ Hk
  iapply (Rounds.wp_signal 𝒱₀ ER (Rd m) (c : Thread nD τ) none (dst := (prv c : Thread nD τ)) (κ := K (prv c, 0))
      (d := true) (by rw [duties_bar]; exact Finset.mem_univ _) rfl () (O₁ c) rfl) $$ [HO Ht H1 H2 H3]
  · isplitr; · iapply (ctx_inv m K (prv c, 0)); iexact Hc
    isplitl [HO]; · iexact HO
    isplitl [Ht]; · iexact Ht
    isplitl
    · iapply (show iprop(held (F := F) c (slotM 1) ∗ held (F := F) c (slotM 2) ∗ held (F := F) c (slotM 3))
          ⊢ (Rd m).payload (barC (prv c)) 0 true from Entails.of_eq (by
            show _ = barPay (F := F) (prv c); unfold barPay; rw [nxt_prv]))
      isplitl [H1]; · iexact H1
      isplitl [H2] <;> iassumption
    iapply (ctx_reached m K (prv c, 0)); iexact Hc
  iintro HO
  iapply Hk
  iexists W; iexact HO

/-- The second, to the next device: nothing goes with it. -/
theorem wp_signal_nxt {α : Type} {Q : α → sProp 𝕄} {k : PUnit → Prog (TpuEff nD τ sig (Elt F) Λ₀ .tc) α} :
    iprop(ctx m K ∗ pend c (O₁ c) ∗ dutyTok ER (barC (nxt c)) 0 false)
      ⊢ iprop((pend c (owed c 0) -∗ WP c (k ⟨⟩) Q) -∗ WP c (.op (.semSignal (nxt c : Thread nD τ) barS 1) k) Q) := by
  unfold pend
  iintro ⟨#Hc, ⟨%W, HO⟩, Ht⟩ Hk
  iapply (Rounds.wp_signal 𝒱₀ ER (Rd m) (c : Thread nD τ) none (dst := (nxt c : Thread nD τ)) (κ := K (nxt c, 0))
      (d := false) (by rw [duties_bar]; exact Finset.mem_univ _) rfl () (owed c 0) rfl) $$ [HO Ht]
  · isplitr; · iapply (ctx_inv m K (nxt c, 0)); iexact Hc
    isplitl [HO]; · iexact HO
    isplitl [Ht]; · iexact Ht
    isplitr; · rw [payload_bar_false]; iempintro
    iapply (ctx_reached m K (nxt c, 0)); iexact Hc
  iintro HO
  iapply Hk
  iexists W; iexact HO

/-- The wait for both neighbours: the next device's landing slots arrive, and the barrier cell closes. -/
theorem wp_wait_bar {α : Type} {Q : α → sProp 𝕄} {k : PUnit → Prog (TpuEff nD τ sig (Elt F) Λ₀ .tc) α} :
    iprop(ctx m K ∗ pend c (owed c 0) ∗ cred (tallyAt (barC c) () 2) ∗ atPos ER (barC c) 0 ∅ 0)
      ⊢ iprop(((pend c (owed c 0) ∗ semVal (barC c) 0
              ∗ held (F := F) (nxt c) (slotM 1) ∗ held (F := F) (nxt c) (slotM 2) ∗ held (F := F) (nxt c) (slotM 3)) -∗ WP c (k ⟨⟩) Q)
          -∗ WP c (.op (.semWait barS 2) k) Q) := by
  unfold pend
  iintro ⟨#Hc, ⟨%W, HO⟩, Hcr, Hat⟩ Hk
  ihave #Hinv := (ctx_inv m K (c, 0)) $$ Hc
  iapply (Rounds.wp_wait_rest_token 𝒱₀ ER (Rd m) (c : Thread nD τ) none (κ := K (c, 0))
      (wpE_semWait_eq 𝒱₀ (c : Thread nD τ) none Set.univ) (Set.mem_univ _) () (O := owed c 0) (W := W) (R := 0) (m := 0) (T := ∅)
      (by rw [expect_bar])) $$ [Hcr HO Hat]
  · isplitr; · iexact Hinv
    isplitl [Hcr]; · iexact Hcr
    isplitl [HO]; · iexact HO
    isplitr
    · iapply (mayWait (F := F) c (.reg barS) (above_owed c 0)); iapply (ctx_levels m K); iexact Hc
    iexact Hat
  iintro ⟨HO, Hat, -, Hp⟩
  imod (Rounds.cell_close ER (Rd m) (Set.mem_univ (K (c, 0))) (fun h => h) (R := 0 + 1) (duties_bar_later m c)) $$ [Hat] with Hz
  · isplitr; · iexact Hinv
    iexact Hat
  ihave Hp := (Entails.of_eq (rest_bar m c)) $$ Hp
  unfold barPay
  icases Hp with ⟨-, Hp⟩
  iapply Hk
  isplitl [HO]; · iexists _; iexact HO
  isplitl [Hz]; · iexact Hz
  iexact Hp

/-! ## A hop -/

/-- The transfer of hop `h`: slot `h`, half of which it borrows, into the next device's slot `h + 1`. -/
theorem wp_hop (h : Fin 3) (a b : Fin 4) (ha : a = h.castSucc) (hb : b = h.succ) (n : Dev nD) (hn : n = nxt c)
    {hsc : (slotM b : Memref sig (Dev.tc n : Thread nD τ).2.kind .vmem S1024x4096 .fp8e5m2).view.ref.isScScratch = false}
    {hsrc : (slotM a).view.WordExact} {hdst : (slotM b).view.WordExact}
    {hsem : DmaTarget.Typed .vmem (.dma (recvS h)) (.remote (Dev.tc n : Thread nD τ) (slotM b) (.dma (sendS h)) hsc)}
    {α : Type} {Q : α → sProp 𝕄} {k : PUnit → Prog (TpuEff nD τ sig (Elt F) Λ₀ .tc) α} :
    iprop(ctx m K ∗ own c (slotM a) fullShare (slotX m c a) ∗ held (F := F) (nxt c) (slotM b)
        ∗ pend c (owed c a) ∗ dutyTok ER (sendC c h) 0 false ∗ dutyTok ER (recvC (nxt c) h) 0 false)
      ⊢ iprop(((cred (tallyAt (sendC c h) () N) ∗ pend c (owed c b) ∗ own c (slotM a) fullShare.right (slotX m c a))
            -∗ WP c (k ⟨⟩) Q)
          -∗ WP c (.op (.enqueueDma (slotM a) (.remote (Dev.tc n : Thread nD τ) (slotM b) (.dma (sendS h)) hsc) (.dma (recvS h)) hsrc hdst hsem) k) Q) := by
  subst hn ha hb
  iintro ⟨#Hc, Hsrc, Hd, HO, Ht1, Ht2⟩ Hk
  ihave Hs := (own_halves c (slotM h.castSucc) (slotX m c h.castSucc)) $$ Hsrc
  icases Hs with ⟨Hl, Hr⟩
  unfold pend held own owns
  icases Hl with ⟨%fs, %hfs, Hl⟩
  icases Hd with ⟨%fd, Hd⟩
  icases HO with ⟨%W, HO⟩
  iapply (Rounds.wp_send_pointsTo 𝒱₀ ER (Rd m) (c : Thread nD τ) none (κ₁ := K (c, sendK h)) (κ₂ := K (nxt c, recvK h))
    (r₁ := 0) (r₂ := 0) (d₁ := false) (d₂ := false) (fd := fd)
    (by rw [duties_send]; exact Finset.mem_singleton_self _) (by rw [duties_recv]; exact Finset.mem_singleton_self _)
    () () N rfl (amount_send m c h 0 false) (amount_recv m (nxt c) h 0 false) (owed c h.succ) (owed_hop c h) (W := W)
    (by rw [payload_send]; unfold sendPay own owns
        refine exists_intro_trans fs ?_
        iintro H; isplitr; · ipureintro; exact hfs
        iexact H)
    (by rw [payload_recv]; unfold recvPay own owns
        refine exists_intro_trans ((slotM h.succ).view.write (Elt F) fd ((slotM h.castSucc).view.read (Elt F) fs) Finset.univ) ?_
        · iintro H; isplitr
          swap; · iexact H
          ipureintro
          rw [slotX, hopDev_nxt]
          exact (View.read_write_univ (v := (slotM h.succ).view) fd _).trans hfs)) $$ [Hl Hd HO Ht1 Ht2]
  · isplitr; · iapply (ctx_inv m K (c, sendK h)); iexact Hc
    isplitr; · iapply (ctx_inv m K (nxt c, recvK h)); iexact Hc
    isplitl [Hl]; · iexact Hl
    isplitl [Hd]; · iexact Hd
    isplitl [HO]; · iexact HO
    isplitl [Ht1]; · iexact Ht1
    isplitr; · iapply (ctx_reached m K (c, sendK h)); iexact Hc
    isplitl [Ht2]; · iexact Ht2
    iapply (ctx_reached m K (nxt c, recvK h)); iexact Hc
  iintro ⟨Hcr, HO⟩
  iapply Hk
  isplitl [Hcr]; · iexact Hcr
  isplitl [HO]; · iexists W; iexact HO
  iexact Hr

/-- The wait for hop `h`'s transfer to have left: the borrowed half returns, and slot `h` is whole again. -/
theorem wp_wait_send (h : Fin 3) (a : Fin 4) (ha : a = h.castSucc) (O : CellTallies nD τ sig Unit) (hO : Above 0 O)
    {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {k : PUnit → Prog (TpuEff nD τ sig (Elt F) Λ₀ .tc) α} :
    iprop(ctx m K ∗ cred (tallyAt (sendC c h) () N) ∗ pend c O ∗ atPos ER (sendC c h) 0 ∅ 0
        ∗ own c (slotM a) fullShare.right (slotX m c a))
      ⊢ iprop(((pend c O ∗ semVal (sendC c h) 0 ∗ held (F := F) c (slotM a)) -∗ WP c (k ⟨⟩) Q)
          -∗ WP c (.op (.waitDma2 (sendS h) src dst hsrc hdst) k) Q) := by
  subst ha
  unfold pend
  iintro ⟨#Hc, Hcr, ⟨%W, HO⟩, Hat, Hr⟩ Hk
  ihave #Hinv := (ctx_inv m K (c, sendK h)) $$ Hc
  iapply (Rounds.wp_wait_rest_token 𝒱₀ ER (Rd m) (c : Thread nD τ) none (κ := K (c, sendK h))
      (wpE_waitDma2_eq 𝒱₀ (c : Thread nD τ) none Set.univ) (Set.mem_univ _) () (O := O) (W := W) (R := 0) (m := 0) (T := ∅)
      (by rw [Nat.zero_add, expect_send, hN])) $$ [Hcr HO Hat]
  · isplitr; · iexact Hinv
    isplitl [Hcr]; · rw [hN]; iexact Hcr
    isplitl [HO]; · iexact HO
    isplitr
    · iapply (mayWait (F := F) c (.dma (sendS h)) (by fin_cases h <;> exact hO)); iapply (ctx_levels m K); iexact Hc
    iexact Hat
  iintro ⟨HO, Hat, -, Hp⟩
  imod (Rounds.cell_close ER (Rd m) (Set.mem_univ (K (c, sendK h))) (fun h => h) (R := 0 + 1) (duties_send_later m c h)) $$ [Hat] with Hz
  · isplitr; · iexact Hinv
    iexact Hat
  ihave Hp := (Entails.of_eq (rest_send m c h)) $$ Hp
  unfold sendPay
  iapply Hk
  isplitl [HO]; · iexists _; iexact HO
  isplitl [Hz]; · iexact Hz
  iapply (held_of_halves c (slotM h.castSucc) (slotX m c h.castSucc) (slotX m c h.castSucc))
  isplitl [Hp] <;> iassumption

/-- The wait for hop `h`'s block from the previous device: slot `h + 1` arrives filled. -/
theorem wp_wait_recv (h : Fin 3) (b : Fin 4) (hb : b = h.succ)
    {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {k : PUnit → Prog (TpuEff nD τ sig (Elt F) Λ₀ .tc) α} :
    iprop(ctx m K ∗ cred (tallyAt (recvC c h) () N) ∗ pend c (owed c b) ∗ atPos ER (recvC c h) 0 ∅ 0)
      ⊢ iprop(((pend c (owed c b) ∗ semVal (recvC c h) 0 ∗ own c (slotM b) fullShare (slotX m c b)) -∗ WP c (k ⟨⟩) Q)
          -∗ WP c (.op (.waitDma2 (recvS h) src dst hsrc hdst) k) Q) := by
  subst hb
  unfold pend
  iintro ⟨#Hc, Hcr, ⟨%W, HO⟩, Hat⟩ Hk
  ihave #Hinv := (ctx_inv m K (c, recvK h)) $$ Hc
  iapply (Rounds.wp_wait_rest_token 𝒱₀ ER (Rd m) (c : Thread nD τ) none (κ := K (c, recvK h))
      (wpE_waitDma2_eq 𝒱₀ (c : Thread nD τ) none Set.univ) (Set.mem_univ _) () (O := owed c h.succ) (W := W) (R := 0) (m := 0) (T := ∅)
      (by rw [Nat.zero_add, expect_recv, hN])) $$ [Hcr HO Hat]
  · isplitr; · iexact Hinv
    isplitl [Hcr]; · rw [hN]; iexact Hcr
    isplitl [HO]; · iexact HO
    isplitr
    · iapply (mayWait (F := F) c (.dma (recvS h)) (by fin_cases h <;> exact above_owed c _)); iapply (ctx_levels m K); iexact Hc
    iexact Hat
  iintro ⟨HO, Hat, -, Hp⟩
  imod (Rounds.cell_close ER (Rd m) (Set.mem_univ (K (c, recvK h))) (fun h => h) (R := 0 + 1) (duties_recv_later m c h)) $$ [Hat] with Hz
  · isplitr; · iexact Hinv
    iexact Hat
  ihave Hp := (Entails.of_eq (rest_recv m c h)) $$ Hp
  unfold recvPay
  iapply Hk
  isplitl [HO]; · iexists _; iexact HO
  isplitl [Hz]; · iexact Hz
  iexact Hp

/-! ## A tile's copy out -/

/-- The copy of hop `h`'s tile into its band of the result, as round `r` of copy cell `p`. -/
theorem wp_copy_out (p r : Fin 2) (h : Fin 4) (hh : copyHop p r.val = h) (q : Fin 4) (hq : q = h.rev)
    {hsrc : (tileM p).view.WordExact} {hdst : (bandM c q).view.WordExact}
    {hsem : DmaTarget.Typed .vmem (.dma (copyS p)) (.here (bandM c q) : DmaTarget nD τ sig .tc .hbm S1024x2048 .f32)}
    {α : Type} {Q : α → sProp 𝕄} {k : PUnit → Prog (TpuEff nD τ sig (Elt F) Λ₀ .tc) α} :
    iprop(ctx m K ∗ own c (tileM p) fullShare (tileX m c h) ∗ held (F := F) c (bandM c q)
        ∗ dutyTok ER (copyC c p) r.val false ∗ reached ER (copyC c p) r.val)
      ⊢ iprop((cred (tallyAt (copyC c p) () M) -∗ WP c (k ⟨⟩) Q)
          -∗ WP c (.op (.enqueueDma (tileM p) (.here (bandM c q)) (.dma (copyS p)) hsrc hdst hsem) k) Q) := by
  subst hq
  unfold held own owns
  iintro ⟨#Hc, ⟨%fs, %hfs, Hs⟩, ⟨%fd, Hd⟩, Ht, Hr⟩ Hk
  iapply (Rounds.wp_copy_pointsTo 𝒱₀ ER (Rd m) (c : Thread nD τ) none (κ := K (c, copyK p)) (fd := fd) (fs := fs) (d := false) (r := r.val)
    (by rw [duties_copy]; exact Finset.mem_singleton_self _) () M rfl (amount_copy m c p r.val false)
    (by rw [payload_copy, hh]; unfold copyPay held own owns
        iintro ⟨Hb, Ht⟩
        isplitl [Hb]
        · iexists _; isplitr
          swap; · iexact Hb
          ipureintro
          exact (View.read_write_univ (v := (bandM c h.rev).view) fd _).trans hfs
        iexists fs; iexact Ht)) $$ [Hs Hd Ht Hr]
  · isplitr; · iapply (ctx_inv m K (c, copyK p)); iexact Hc
    isplitl [Hs]; · iexact Hs
    isplitl [Hd]; · iexact Hd
    isplitl [Ht] <;> iassumption
  iexact Hk

/-- The wait for it: the band written, the tile free. -/
theorem wp_wait_copy (p r : Fin 2) (h : Fin 4) (hh : copyHop p r.val = h) (q : Fin 4) (hq : q = h.rev) (O : CellTallies nD τ sig Unit) (hO : Above 0 O)
    {sp sp' : Space} {s s' : Shape} {e e' : EltTy} {src : Memref sig .tc sp s e} {dst : Memref sig .tc sp' s' e'}
    {hsrc : src.view.WordExact} {hdst : dst.view.WordExact} (hM : dst.view.dmaCredit = M)
    {α : Type} {Q : α → sProp 𝕄} {k : PUnit → Prog (TpuEff nD τ sig (Elt F) Λ₀ .tc) α} :
    iprop(ctx m K ∗ cred (tallyAt (copyC c p) () M) ∗ pend c O ∗ atPos ER (copyC c p) r.val ∅ 0)
      ⊢ iprop(((pend c O ∗ atPos ER (copyC c p) (r.val + 1) ∅ 0 ∗ reached ER (copyC c p) (r.val + 1)
              ∗ own c (bandM c q) fullShare (tileX m c h) ∗ held (F := F) c (tileM p)) -∗ WP c (k ⟨⟩) Q)
          -∗ WP c (.op (.waitDma2 (copyS p) src dst hsrc hdst) k) Q) := by
  subst hq
  unfold pend
  iintro ⟨#Hc, Hcr, ⟨%W, HO⟩, Hat⟩ Hk
  iapply (Rounds.wp_wait_rest_token 𝒱₀ ER (Rd m) (c : Thread nD τ) none (κ := K (c, copyK p))
      (wpE_waitDma2_eq 𝒱₀ (c : Thread nD τ) none Set.univ) (Set.mem_univ _) () (O := O) (W := W) (R := r.val) (m := 0) (T := ∅)
      (by rw [Nat.zero_add, expect_copy, hM])) $$ [Hcr HO Hat]
  · isplitr; · iapply (ctx_inv m K (c, copyK p)); iexact Hc
    isplitl [Hcr]; · rw [hM]; iexact Hcr
    isplitl [HO]; · iexact HO
    isplitr
    · iapply (mayWait (F := F) c (.dma (copyS p)) (by fin_cases p <;> exact hO)); iapply (ctx_levels m K); iexact Hc
    iexact Hat
  iintro ⟨HO, Hat, Hr, Hp⟩
  ihave Hp := (Entails.of_eq ((rest_copy m c p r).trans (by rw [hh]))) $$ Hp
  unfold copyPay
  iapply Hk
  isplitl [HO]; · iexists _; iexact HO
  isplitl [Hat]; · iexact Hat
  isplitl [Hr]; · iexact Hr
  iexact Hp

/-- Once both its rounds are past, a copy cell closes. -/
theorem close_copy (p : Fin 2) : iprop(ctx m K ∗ atPos ER (copyC c p) 2 ∅ 0) ⊢ iprop(|={Set.univ}=> semVal (copyC c p) 0) := by
  iintro ⟨#Hc, Hat⟩
  iapply (Rounds.cell_close ER (Rd m) (Set.mem_univ (K (c, copyK p))) (fun h => h) (R := 2) (duties_later m (copyC c p)))
  isplitr; · iapply (ctx_inv m K (c, copyK p)); iexact Hc
  iexact Hat

end Steps

end Cert.KernelIdeal.RingProof

end
-- ==== Proof.KernelIdeal.Parts.lean ====
/-
The kernel's body, in the seven parts it is printed in and a short rest.

Each theorem runs one part: what device `c` must hold to run it, and what it holds afterwards. Between parts the parts'
resources that are not mentioned stay in the caller's hands.
-/
module

public import proofs.«01_k».proof.Proof.KernelIdeal.Steps

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores as the kernel reaches them: one element sliced out of an array of semaphores -/

theorem send_sem0 : ((cc0_scratch2.slice (Rect.unit (s := S3) ![0] S1.size inb_S3_S1_0)).squeeze S_ squeezes_S1_S_).sem = sendS 0 := rfl
theorem send_sem1 : ((cc0_scratch2.slice (Rect.unit (s := S3) ![1] S1.size inb_S3_S1_1)).squeeze S_ squeezes_S1_S_).sem = sendS 1 := rfl
theorem send_sem2 : ((cc0_scratch2.slice (Rect.unit (s := S3) ![2] S1.size inb_S3_S1_2)).squeeze S_ squeezes_S1_S_).sem = sendS 2 := rfl
theorem recv_sem0 : ((cc0_scratch3.slice (Rect.unit (s := S3) ![0] S1.size inb_S3_S1_0)).squeeze S_ squeezes_S1_S_).sem = recvS 0 := rfl
theorem recv_sem1 : ((cc0_scratch3.slice (Rect.unit (s := S3) ![1] S1.size inb_S3_S1_1)).squeeze S_ squeezes_S1_S_).sem = recvS 1 := rfl
theorem recv_sem2 : ((cc0_scratch3.slice (Rect.unit (s := S3) ![2] S1.size inb_S3_S1_2)).squeeze S_ squeezes_S1_S_).sem = recvS 2 := rfl
theorem copy_sem0 : ((cc0_scratch4.slice (Rect.unit (s := S2) ![0] S1.size inb_S2_S1_0)).squeeze S_ squeezes_S1_S_).sem = copyS 0 := rfl
theorem copy_sem1 : ((cc0_scratch4.slice (Rect.unit (s := S2) ![1] S1.size inb_S2_S1_1)).squeeze S_ squeezes_S1_S_).sem = copyS 1 := rfl

/-! ## The payloads are one function of a slot's block -/

theorem pay3_eq (s : F .f32) (v : FVec F S1x1024x4096 .fp8e5m2) (w : FVec F S4096x2048 .fp8e5m2) : k0_pay3 s v w = k0_pay5 s (k0_pay4 v) w := rfl
theorem pay6_eq (v : FVec F S1x1024x4096 .fp8e5m2) : k0_pay6 v = k0_pay4 v := rfl
theorem pay8_eq (s : F .f32) (v : FVec F S1024x4096 .fp8e5m2) (w : FVec F S4096x2048 .fp8e5m2) :
    k0_pay8 s v (k0_pay7 w) (constant S1024x2048 .f32 0x00000000#32) = k0_pay5 s v w := rfl
theorem pay9_eq (s : F .f32) (v : FVec F S1x1024x4096 .fp8e5m2) (w : FVec F S4096x2048 .fp8e5m2) : k0_pay9 s v w = k0_pay5 s (k0_pay4 v) w := rfl
theorem pay1_eq (x : FVec F S1024x4096 .fp8e5m2) : k0_pay4 (k0_pay1 x) = x := by
  unfold k0_pay4 k0_pay1
  rw [shapeCast_shapeCast]
  exact shapeCast_self _ _

/-- A buffer of device `c` held whole. -/
abbrev whole (c : Dev nD) (b : Ref sig .tc) (X : Buf (Elt F) ((c : Thread nD τ).loc b)) : sProp 𝕄 := ((c : Thread nD τ).loc b) ↦{fullShare} X

section Parts
variable (K : Dev nD × Fin 9 → ℕ) (c : Dev nD)

/-- The handshake, and the device's own block stored in slot 0. -/
theorem run_part1 {Q : (Σ' (d0 : Dev nD) (v2 : BitVec 32) (v6 : BitVec 32), F .f32) → sProp 𝕄} :
    iprop(ctx m K ∗ pend c (O₀ c) ∗ dutyTok ER (barC (prv c)) 0 true ∗ dutyTok ER (barC (nxt c)) 0 false
        ∗ cred (tallyAt (barC c) () 2) ∗ atPos ER (barC c) 0 ∅ 0
        ∗ whole c cc0_stg0_0 (xBlk m c) ∗ whole c cc0_stg2_0 (sxBlk m c) ∗ whole c cc0_stg3_0 (swBlk m c)
        ∗ held (F := F) c (slotM 0) ∗ held (F := F) c (slotM 1) ∗ held (F := F) c (slotM 2) ∗ held (F := F) c (slotM 3))
      ⊢ iprop((∀ v2 v6, (pend c (owed c 0) ∗ semVal (barC c) 0
              ∗ whole c cc0_stg0_0 (xBlk m c) ∗ whole c cc0_stg2_0 (sxBlk m c) ∗ whole c cc0_stg3_0 (swBlk m c)
              ∗ own c (slotM 0) fullShare (slotX m c 0)
              ∗ held (F := F) (nxt c) (slotM 1) ∗ held (F := F) (nxt c) (slotM 2) ∗ held (F := F) (nxt c) (slotM 3))
            -∗ Q ⟨c, v2, v6, scl m c⟩)
          -∗ WP c (k0_part1_skel xM (Memref.isWhole_whole _) wM (Memref.isWhole_whole _) sxM (Memref.isWhole_whole _) swM (Memref.isWhole_whole _) oM (Memref.isWhole_whole _)
        cM (Memref.isWhole_whole _) yM (Memref.isWhole_whole _) cc0_scratch2 cc0_scratch3 cc0_scratch4) Q) := by
  unfold k0_part1_skel scl
  simp only [smemLoad, smemLoadElt, semSignalWord, semWaitWord, Prog.lift, Prog.bind_op, Prog.bind_ret, Prog.pure_eq_ret, wp_deviceId, dev1_eq c, dev2_eq c]
  iintro ⟨#Hc, HO, Ht1, Ht2, Hcr, Hat, Hx, Hsx, Hsw, H0, H1, H2, H3⟩ Hk
  iapply (wp_signal_prv m K c) $$ [HO Ht1 H1 H2 H3]
  · isplitr; · iexact Hc
    isplitl [HO]; · iexact HO
    isplitl [Ht1]; · iexact Ht1
    isplitl [H1]; · iexact H1
    isplitl [H2] <;> iassumption
  iintro HO
  iapply (wp_signal_nxt m K c) $$ [HO Ht2]
  · isplitr; · iexact Hc
    isplitl [HO] <;> iassumption
  iintro HO
  iapply (wp_wait_bar m K c) $$ [HO Hcr Hat]
  · isplitr; · iexact Hc
    isplitl [HO]; · iexact HO
    isplitl [Hcr] <;> iassumption
  iintro ⟨HO, Hz, Hn⟩
  iapply (wp_load_reads c xM _ (xBlk m c) (V := xBlk m c) (Memref.readAt_unit_zero (Elt F) cc0_stg0_0 zeros2 _ _)) $$ Hx
  iintro Hx
  iapply (wp_load_held_slot c 0) $$ H0
  iintro %v14 H0
  iapply (wp_store_slot c 0) $$ H0
  iintro H0
  iapply (wp_load_reads c sxM _ (sxBlk m c) (V := sxBlk m c) (Memref.readAt_unit_zero (Elt F) cc0_stg2_0 zeros1 _ _)) $$ Hsx
  iintro Hsx
  iapply (wp_load_reads c swM _ (swBlk m c) (V := swBlk m c) (Memref.readAt_unit_zero (Elt F) cc0_stg3_0 zeros1 _ _)) $$ Hsw
  iintro Hsw
  iapply (wp_done c)
  iapply Hk
  isplitl [HO]; · iexact HO
  isplitl [Hz]; · iexact Hz
  isplitl [Hx]; · iexact Hx
  isplitl [Hsx]; · iexact Hsx
  isplitl [Hsw]; · iexact Hsw
  isplitl [H0]
  · iapply (Entails.of_eq (congrArg (own c (slotM 0) fullShare) ((pay1_eq (xBlk m c)).trans (by rw [slotX, hopDev_zero])))); iexact H0
  iexact Hn

/-- Hop 0's transfer starts; meanwhile the device's own block is multiplied and its tile's copy out starts. -/
theorem run_part2 (v2 : BitVec 32) {Q : PUnit → sProp 𝕄} :
    iprop(ctx m K ∗ pend c (owed c 0) ∗ own c (slotM 0) fullShare (slotX m c 0) ∗ held (F := F) (nxt c) (slotM 1)
        ∗ dutyTok ER (sendC c 0) 0 false ∗ dutyTok ER (recvC (nxt c) 0) 0 false ∗ dutyTok ER (copyC c 0) 0 false
        ∗ whole c cc0_stg1_0 (wBlk m c) ∗ held (F := F) c (tileM 0) ∗ held (F := F) c (bandM c 3))
      ⊢ iprop(((pend c (owed c 1) ∗ cred (tallyAt (sendC c 0) () N) ∗ own c (slotM 0) fullShare.right (slotX m c 0)
              ∗ cred (tallyAt (copyC c 0) () M) ∗ whole c cc0_stg1_0 (wBlk m c)) -∗ Q ⟨⟩)
          -∗ WP c (k0_part2_skel xM (Memref.isWhole_whole _) wM (Memref.isWhole_whole _) sxM (Memref.isWhole_whole _) swM (Memref.isWhole_whole _) oM (Memref.isWhole_whole _)
        cM (Memref.isWhole_whole _) yM (Memref.isWhole_whole _) cc0_scratch2 cc0_scratch3 cc0_scratch4
              c v2 (scl m c)) Q) := by
  unfold k0_part2_skel
  simp only [Prog.lift, Prog.bind_op, Prog.bind_ret, Prog.pure_eq_ret, send_sem0, recv_sem0, copy_sem0]
  iintro ⟨#Hc, HO, Hs, Hd, Ht1, Ht2, Ht3, Hw, Hy, Hb⟩ Hk
  iapply (wp_hop m K c 0 0 1 rfl rfl _ (dev3_eq c)) $$ [HO Hs Hd Ht1 Ht2]
  · isplitr; · iexact Hc
    isplitl [Hs]; · iexact Hs
    isplitl [Hd]; · iexact Hd
    isplitl [HO]; · iexact HO
    isplitl [Ht1] <;> iassumption
  iintro ⟨Hcr, HO, Hs⟩
  iapply (wp_load_slot c 0 fullShare.right (slotX m c 0)) $$ Hs
  iintro %v %hv Hs
  iapply (wp_load_reads c wM _ (wBlk m c) (V := wBlk m c) (Memref.readAt_unit_zero (Elt F) cc0_stg1_0 zeros2 _ _)) $$ Hw
  iintro Hw
  iapply (wp_load_held_tile c 0) $$ Hy
  iintro %v47 Hy
  iapply (wp_store_tile c 0) $$ Hy
  iintro Hy
  rw [pay3_eq, hv]
  iapply (wp_copy_out m K c 0 0 0 rfl 3 rfl) $$ [Hy Hb Ht3]
  · isplitr; · iexact Hc
    isplitl [Hy]; · iexact Hy
    isplitl [Hb]; · iexact Hb
    isplitl [Ht3]; · iexact Ht3
    iapply (ctx_reached m K (c, copyK 0)); iexact Hc
  iintro Hcc
  iapply (wp_done c)
  iapply Hk
  isplitl [HO]; · iexact HO
  isplitl [Hcr]; · iexact Hcr
  isplitl [Hs]; · iexact Hs
  isplitl [Hcc] <;> iassumption

/-- Hop 0 ends on both sides, hop 1's transfer starts, and the block it forwards is read. -/
theorem run_part3 (v2 v6 : BitVec 32) {Q : (Σ' (v81 : BitVec 32), FVec F S1024x4096 .fp8e5m2) → sProp 𝕄} :
    iprop(ctx m K ∗ pend c (owed c 1) ∗ cred (tallyAt (sendC c 0) () N) ∗ atPos ER (sendC c 0) 0 ∅ 0
        ∗ own c (slotM 0) fullShare.right (slotX m c 0)
        ∗ cred (tallyAt (recvC c 0) () N) ∗ atPos ER (recvC c 0) 0 ∅ 0
        ∗ held (F := F) (nxt c) (slotM 2) ∗ dutyTok ER (sendC c 1) 0 false ∗ dutyTok ER (recvC (nxt c) 1) 0 false)
      ⊢ iprop((∀ v81, (pend c (owed c 2) ∗ semVal (sendC c 0) 0 ∗ held (F := F) c (slotM 0) ∗ semVal (recvC c 0) 0
              ∗ cred (tallyAt (sendC c 1) () N) ∗ own c (slotM 1) fullShare.right (slotX m c 1)) -∗ Q ⟨v81, slotX m c 1⟩)
          -∗ WP c (k0_part3_skel xM (Memref.isWhole_whole _) wM (Memref.isWhole_whole _) sxM (Memref.isWhole_whole _) swM (Memref.isWhole_whole _) oM (Memref.isWhole_whole _)
        cM (Memref.isWhole_whole _) yM (Memref.isWhole_whole _) cc0_scratch2 cc0_scratch3 cc0_scratch4
              c v2 v6) Q) := by
  unfold k0_part3_skel
  simp only [Prog.lift, Prog.bind_op, Prog.bind_ret, Prog.pure_eq_ret, send_sem0, recv_sem0, send_sem1, recv_sem1]
  iintro ⟨#Hc, HO, Hc1, Ha1, Hs, Hc2, Ha2, Hd, Ht1, Ht2⟩ Hk
  iapply (wp_wait_send m K c 0 0 rfl (owed c 1) (above_mono (Nat.zero_le _) (above_owed c 1)) (dst := slotM 0) rfl) $$ [HO Hc1 Ha1 Hs]
  · isplitr; · iexact Hc
    isplitl [Hc1]; · iexact Hc1
    isplitl [HO]; · iexact HO
    isplitl [Ha1] <;> iassumption
  iintro ⟨HO, Hz1, Hs0⟩
  iapply (wp_wait_recv m K c 0 1 rfl (dst := slotM 1) rfl) $$ [HO Hc2 Ha2]
  · isplitr; · iexact Hc
    isplitl [Hc2]; · iexact Hc2
    isplitl [HO] <;> iassumption
  iintro ⟨HO, Hz2, Hs⟩
  iapply (wp_hop m K c 1 1 2 rfl rfl _ (dev4_eq c)) $$ [HO Hs Hd Ht1 Ht2]
  · isplitr; · iexact Hc
    isplitl [Hs]; · iexact Hs
    isplitl [Hd]; · iexact Hd
    isplitl [HO]; · iexact HO
    isplitl [Ht1] <;> iassumption
  iintro ⟨Hcr, HO, Hs⟩
  iapply (wp_load_slot c 1 fullShare.right (slotX m c 1)) $$ Hs
  iintro %v %hv Hs
  rw [hv]
  iapply (wp_done c)
  iapply Hk
  isplitl [HO]; · iexact HO
  isplitl [Hz1]; · iexact Hz1
  isplitl [Hs0]; · iexact Hs0
  isplitl [Hz2]; · iexact Hz2
  isplitl [Hcr] <;> iassumption

/-- The block of one hop back is multiplied and its tile's copy out starts; hop 1 has left. -/
theorem run_part4 (v81 : BitVec 32) {Q : BitVec 32 → sProp 𝕄} :
    iprop(ctx m K ∗ whole c cc0_stg1_0 (wBlk m c) ∗ held (F := F) c (tileM 1) ∗ held (F := F) c (bandM c 2)
        ∗ dutyTok ER (copyC c 1) 0 false ∗ pend c (owed c 2) ∗ cred (tallyAt (sendC c 1) () N) ∗ atPos ER (sendC c 1) 0 ∅ 0
        ∗ own c (slotM 1) fullShare.right (slotX m c 1))
      ⊢ iprop((∀ b, (pend c (owed c 2) ∗ whole c cc0_stg1_0 (wBlk m c) ∗ cred (tallyAt (copyC c 1) () M)
              ∗ semVal (sendC c 1) 0 ∗ held (F := F) c (slotM 1)) -∗ Q b)
          -∗ WP c (k0_part4_skel xM (Memref.isWhole_whole _) wM (Memref.isWhole_whole _) sxM (Memref.isWhole_whole _) swM (Memref.isWhole_whole _) oM (Memref.isWhole_whole _)
        cM (Memref.isWhole_whole _) yM (Memref.isWhole_whole _) cc0_scratch2 cc0_scratch3 cc0_scratch4
              c (scl m c) v81 (slotX m c 1)) Q) := by
  unfold k0_part4_skel
  simp only [Prog.lift, Prog.bind_op, Prog.bind_ret, Prog.pure_eq_ret, send_sem1, copy_sem1]
  iintro ⟨#Hc, Hw, Hy, Hb, Ht, HO, Hc1, Ha1, Hs⟩ Hk
  iapply (wp_load_reads c wM _ (wBlk m c) (V := wBlk m c) (Memref.readAt_unit_zero (Elt F) cc0_stg1_0 zeros2 _ _)) $$ Hw
  iintro Hw
  iapply (wp_load_held_tile c 1) $$ Hy
  iintro %v97 Hy
  iapply (wp_store_tile c 1) $$ Hy
  iintro Hy
  iapply (wp_copy_out m K c 1 0 1 rfl 2 rfl) $$ [Hy Hb Ht]
  · isplitr; · iexact Hc
    isplitl [Hy]; · iexact Hy
    isplitl [Hb]; · iexact Hb
    isplitl [Ht]; · iexact Ht
    iapply (ctx_reached m K (c, copyK 1)); iexact Hc
  iintro Hcc
  iapply (wp_wait_send m K c 1 1 rfl (owed c 2) (above_mono (Nat.zero_le _) (above_owed c 2)) (dst := slotM 1) rfl) $$ [HO Hc1 Ha1 Hs]
  · isplitr; · iexact Hc
    isplitl [Hc1]; · iexact Hc1
    isplitl [HO]; · iexact HO
    isplitl [Ha1] <;> iassumption
  iintro ⟨HO, Hz1, Hs0⟩
  iapply (wp_done c)
  iapply Hk
  isplitl [HO]; · iexact HO
  isplitl [Hw]; · iexact Hw
  isplitl [Hcc]; · iexact Hcc
  isplitl [Hz1] <;> iassumption

/-- Hop 1 arrives, hop 2's transfer starts, the first tile is free again, and the operands of its next use are read. -/
theorem run_part5 (v2 v6 b : BitVec 32)
    {Q : (Σ' (v136 : BitVec 32) (v138 : FVec F S1024x4096 .fp8e5m2) (v140 : FVec F S4096x2048 .fp8e5m2), FVec F S1024x2048 .f32) → sProp 𝕄} :
    iprop(ctx m K ∗ pend c (owed c 2) ∗ cred (tallyAt (recvC c 1) () N) ∗ atPos ER (recvC c 1) 0 ∅ 0
        ∗ held (F := F) (nxt c) (slotM 3) ∗ dutyTok ER (sendC c 2) 0 false ∗ dutyTok ER (recvC (nxt c) 2) 0 false
        ∗ cred (tallyAt (copyC c 0) () M) ∗ atPos ER (copyC c 0) 0 ∅ 0 ∗ whole c cc0_stg1_0 (wBlk m c))
      ⊢ iprop((∀ v136, (pend c (owed c 3) ∗ semVal (recvC c 1) 0
              ∗ cred (tallyAt (sendC c 2) () N) ∗ own c (slotM 2) fullShare.right (slotX m c 2)
              ∗ atPos ER (copyC c 0) 1 ∅ 0 ∗ reached ER (copyC c 0) 1
              ∗ own c (bandM c 3) fullShare (tileX m c 0) ∗ held (F := F) c (tileM 0) ∗ whole c cc0_stg1_0 (wBlk m c))
            -∗ Q ⟨v136, slotX m c 2, k0_pay7 (wBlk m c), constant S1024x2048 .f32 0x00000000#32⟩)
          -∗ WP c (k0_part5_skel xM (Memref.isWhole_whole _) wM (Memref.isWhole_whole _) sxM (Memref.isWhole_whole _) swM (Memref.isWhole_whole _) oM (Memref.isWhole_whole _)
        cM (Memref.isWhole_whole _) yM (Memref.isWhole_whole _) cc0_scratch2 cc0_scratch3 cc0_scratch4
              c v2 v6 b) Q) := by
  unfold k0_part5_skel
  simp only [Prog.lift, Prog.bind_op, Prog.bind_ret, Prog.pure_eq_ret, recv_sem1, send_sem2, recv_sem2, copy_sem0]
  iintro ⟨#Hc, HO, Hc2, Ha2, Hd, Ht1, Ht2, Hcc, Hca, Hw⟩ Hk
  iapply (wp_wait_recv m K c 1 2 rfl (dst := slotM 2) rfl) $$ [HO Hc2 Ha2]
  · isplitr; · iexact Hc
    isplitl [Hc2]; · iexact Hc2
    isplitl [HO] <;> iassumption
  iintro ⟨HO, Hz2, Hs⟩
  iapply (wp_hop m K c 2 2 3 rfl rfl _ (dev5_eq c)) $$ [HO Hs Hd Ht1 Ht2]
  · isplitr; · iexact Hc
    isplitl [Hs]; · iexact Hs
    isplitl [Hd]; · iexact Hd
    isplitl [HO]; · iexact HO
    isplitl [Ht1] <;> iassumption
  iintro ⟨Hcr, HO, Hs⟩
  iapply (wp_wait_copy m K c 0 0 0 rfl 3 rfl (owed c 3) (above_zero 0) (dst := bandM c 3) rfl) $$ [HO Hcc Hca]
  · isplitr; · iexact Hc
    isplitl [Hcc]; · iexact Hcc
    isplitl [HO]; · iexact HO
    iexact Hca
  iintro ⟨HO, Hca, Hcr', Hb, Hy⟩
  iapply (wp_load_slot c 2 fullShare.right (slotX m c 2)) $$ Hs
  iintro %v %hv Hs
  iapply (wp_load_reads c wM _ (wBlk m c) (V := wBlk m c) (Memref.readAt_unit_zero (Elt F) cc0_stg1_0 zeros2 _ _)) $$ Hw
  iintro Hw
  rw [pay6_eq, hv]
  iapply (wp_done c)
  iapply Hk
  isplitl [HO]; · iexact HO
  isplitl [Hz2]; · iexact Hz2
  isplitl [Hcr]; · iexact Hcr
  isplitl [Hs]; · iexact Hs
  isplitl [Hca]; · iexact Hca
  isplitl [Hcr']; · iexact Hcr'
  isplitl [Hb]; · iexact Hb
  isplitl [Hy] <;> iassumption

/-- The block of two hops back is multiplied and its tile's copy out starts; hop 2 has left. -/
theorem run_part6 (v6 v136 : BitVec 32) {Q : PUnit → sProp 𝕄} :
    iprop(ctx m K ∗ held (F := F) c (tileM 0) ∗ held (F := F) c (bandM c 1)
        ∗ dutyTok ER (copyC c 0) 1 false ∗ reached ER (copyC c 0) 1
        ∗ pend c (owed c 3) ∗ cred (tallyAt (sendC c 2) () N) ∗ atPos ER (sendC c 2) 0 ∅ 0
        ∗ own c (slotM 2) fullShare.right (slotX m c 2))
      ⊢ iprop(((pend c (owed c 3) ∗ cred (tallyAt (copyC c 0) () M) ∗ semVal (sendC c 2) 0 ∗ held (F := F) c (slotM 2)) -∗ Q ⟨⟩)
          -∗ WP c (k0_part6_skel xM (Memref.isWhole_whole _) wM (Memref.isWhole_whole _) sxM (Memref.isWhole_whole _) swM (Memref.isWhole_whole _) oM (Memref.isWhole_whole _)
        cM (Memref.isWhole_whole _) yM (Memref.isWhole_whole _) cc0_scratch2 cc0_scratch3 cc0_scratch4
              c v6 (scl m c) v136 (slotX m c 2) (k0_pay7 (wBlk m c)) (constant S1024x2048 .f32 0x00000000#32)) Q) := by
  unfold k0_part6_skel
  simp only [Prog.lift, Prog.bind_op, Prog.bind_ret, Prog.pure_eq_ret, send_sem2, copy_sem0]
  iintro ⟨#Hc, Hy, Hb, Ht, Hr, HO, Hc1, Ha1, Hs⟩ Hk
  iapply (wp_load_held_tile c 0) $$ Hy
  iintro %v97 Hy
  iapply (wp_store_tile c 0) $$ Hy
  iintro Hy
  rw [pay8_eq]
  iapply (wp_copy_out m K c 0 1 2 rfl 1 rfl) $$ [Hy Hb Ht Hr]
  · isplitr; · iexact Hc
    isplitl [Hy]; · iexact Hy
    isplitl [Hb]; · iexact Hb
    isplitl [Ht]; · iexact Ht
    iexact Hr
  iintro Hcc
  iapply (wp_wait_send m K c 2 2 rfl (owed c 3) (above_zero 0) (dst := slotM 2) rfl) $$ [HO Hc1 Ha1 Hs]
  · isplitr; · iexact Hc
    isplitl [Hc1]; · iexact Hc1
    isplitl [HO]; · iexact HO
    isplitl [Ha1] <;> iassumption
  iintro ⟨HO, Hz1, Hs0⟩
  iapply (wp_done c)
  iapply Hk
  isplitl [HO]; · iexact HO
  isplitl [Hcc]; · iexact Hcc
  isplitl [Hz1] <;> iassumption

/-- Hop 2 arrives, the second tile is free again, and the last block is multiplied into it. -/
theorem run_part7 (v2 : BitVec 32) {Q : PUnit → sProp 𝕄} :
    iprop(ctx m K ∗ pend c (owed c 3) ∗ cred (tallyAt (recvC c 2) () N) ∗ atPos ER (recvC c 2) 0 ∅ 0
        ∗ cred (tallyAt (copyC c 1) () M) ∗ atPos ER (copyC c 1) 0 ∅ 0 ∗ whole c cc0_stg1_0 (wBlk m c))
      ⊢ iprop(((pend c (owed c 3) ∗ semVal (recvC c 2) 0 ∗ own c (slotM 3) fullShare (slotX m c 3)
              ∗ atPos ER (copyC c 1) 1 ∅ 0 ∗ reached ER (copyC c 1) 1
              ∗ own c (bandM c 2) fullShare (tileX m c 1) ∗ own c (tileM 1) fullShare (tileX m c 3) ∗ whole c cc0_stg1_0 (wBlk m c)) -∗ Q ⟨⟩)
          -∗ WP c (k0_part7_skel xM (Memref.isWhole_whole _) wM (Memref.isWhole_whole _) sxM (Memref.isWhole_whole _) swM (Memref.isWhole_whole _) oM (Memref.isWhole_whole _)
        cM (Memref.isWhole_whole _) yM (Memref.isWhole_whole _) cc0_scratch2 cc0_scratch3 cc0_scratch4
              c v2 (scl m c)) Q) := by
  unfold k0_part7_skel
  simp only [Prog.lift, Prog.bind_op, Prog.bind_ret, Prog.pure_eq_ret, recv_sem2, copy_sem1]
  iintro ⟨#Hc, HO, Hc2, Ha2, Hcc, Hca, Hw⟩ Hk
  iapply (wp_wait_recv m K c 2 3 rfl (dst := slotM 3) rfl) $$ [HO Hc2 Ha2]
  · isplitr; · iexact Hc
    isplitl [Hc2]; · iexact Hc2
    isplitl [HO] <;> iassumption
  iintro ⟨HO, Hz2, Hs⟩
  iapply (wp_wait_copy m K c 1 0 1 rfl 2 rfl (owed c 3) (above_zero 0) (dst := bandM c 2) rfl) $$ [HO Hcc Hca]
  · isplitr; · iexact Hc
    isplitl [Hcc]; · iexact Hcc
    isplitl [HO]; · iexact HO
    iexact Hca
  iintro ⟨HO, Hca, Hcr', Hb, Hy⟩
  iapply (wp_load_slot c 3 fullShare (slotX m c 3)) $$ Hs
  iintro %v %hv Hs
  iapply (wp_load_reads c wM _ (wBlk m c) (V := wBlk m c) (Memref.readAt_unit_zero (Elt F) cc0_stg1_0 zeros2 _ _)) $$ Hw
  iintro Hw
  iapply (wp_load_held_tile c 1) $$ Hy
  iintro %v47 Hy
  iapply (wp_store_tile c 1) $$ Hy
  iintro Hy
  rw [pay9_eq, hv]
  iapply (wp_done c)
  iapply Hk
  isplitl [HO]; · iexact HO
  isplitl [Hz2]; · iexact Hz2
  isplitl [Hs]; · iexact Hs
  isplitl [Hca]; · iexact Hca
  isplitl [Hcr']; · iexact Hcr'
  isplitl [Hb]; · iexact Hb
  isplitl [Hy]; · iexact Hy
  iexact Hw

end Parts

end Cert.KernelIdeal.RingProof

end
-- ==== Proof.KernelIdeal.Body.lean ====
/-
The whole body on one device, and the obligation the launch asks of it.

The body starts from the device's share of the protocol, its operands staged, its scratch buffers and its result array;
it ends with every semaphore back at zero, the operands as they were, and the result array at `result`, whose band of
rows from each device is that device's block of `x` times this device's block of `w`, scaled and passed through the
activation.
-/
module

public import proofs.«01_k».proof.Proof.KernelIdeal.Parts

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result array -/

/-- The device whose rows row `i` of the result is among, and the place of `i` in its block. -/
def rowDev (i : S4096x2048.Idx) : Dev nD := ⟨(i 0).val / 1024, by have : (i 0).val < 4096 := (i 0).isLt; show _ < 4; omega⟩
def rowIdx (i : S4096x2048.Idx) : S1024x2048.Idx := fun
  | 0 => ⟨(i 0).val % 1024, Nat.mod_lt _ (by decide)⟩
  | 1 => ⟨(i 1).val, (i 1).isLt⟩

/-- Device `c`'s result: in the rows of device `d`, the tile computed from `d`'s block of `x`. -/
def result (c : Dev nD) : Buf (Elt F) ((c : Thread nD τ).loc main_v1) := fun i =>
  flat (k0_pay5 (scl m c) (xBlk m (rowDev i)) (wBlk m c)) (rowIdx i)

theorem result_band (c : Dev nD) (r : Fin 4) : (fun j => result m c ((bandR c r).emb j)) = tileX m c r.rev := by
  funext j
  have h0 : ((bandR c r).emb j 0).val = 1024 * ((c.val + r.val + 1) % 4) + (j 0).val := by
    show (k0_off1 c (BitVec.ofNat 32 (1 + r.val))) 0 + 1 * (j 0).val = _
    rw [k0_off1_eq, Nat.one_mul]; rfl
  have hj : (j 0).val < 1024 := (j 0).isLt
  have hd : rowDev ((bandR c r).emb j) = bandDev c r :=
    Fin.ext (by show ((bandR c r).emb j 0).val / 1024 = (c.val + r.val + 1) % 4; rw [h0]; omega)
  have hi : rowIdx ((bandR c r).emb j) = j := by
    have h1 : ((bandR c r).emb j 1).val = (j 1).val := by
      show (k0_off1 c (BitVec.ofNat 32 (1 + r.val))) 1 + 1 * (j 1).val = _
      rw [k0_off1_eq, Nat.one_mul]; exact Nat.zero_add _
    funext a
    match a with
    | 0 => exact Fin.ext (by show ((bandR c r).emb j 0).val % 1024 = _; rw [h0]; omega)
    | 1 => exact Fin.ext h1
  show flat (k0_pay5 (scl m c) (xBlk m (rowDev _)) (wBlk m c)) (rowIdx _) = _
  rw [hd, hi]
  unfold tileX
  rw [slotX, hopDev, Fin.rev_rev]

/-! ## Conjunctions over the cells, slots, tiles and bands, written out -/

theorem bigSep2 (Φ : Fin 2 → sProp 𝕄) : bigSep Finset.univ Φ = iprop(Φ 0 ∗ Φ 1) := bigSep_univ_eq_bigSepL [0, 1] (by decide) (by decide) Φ
theorem bigSep3 (Φ : Fin 3 → sProp 𝕄) : bigSep Finset.univ Φ = iprop(Φ 0 ∗ Φ 1 ∗ Φ 2) := bigSep_univ_eq_bigSepL [0, 1, 2] (by decide) (by decide) Φ
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- One assertion of each of device `c`'s nine cells. -/
theorem cells_eq (c : Dev nD) (Φ : GSem nD τ sig → sProp 𝕄) :
    (bigSep Finset.univ fun k : Fin 9 => Φ (kcell (c, k)))
      = iprop(Φ (barC c) ∗ Φ (sendC c 0) ∗ Φ (sendC c 1) ∗ Φ (sendC c 2) ∗ Φ (recvC c 0) ∗ Φ (recvC c 1) ∗ Φ (recvC c 2) ∗ Φ (copyC c 0) ∗ Φ (copyC c 1)) :=
  bigSep9 _

/-! ## What the body starts from and ends with -/

/-- The tokens of the duties device `c` pays: both neighbours' barrier cells, the next device's receive cells, its own
    send cells, and both rounds of its own copy cells. -/
def payToks (c : Dev nD) : sProp 𝕄 :=
  iprop(dutyTok ER (barC (prv c)) 0 true ∗ dutyTok ER (barC (nxt c)) 0 false
    ∗ (bigSep Finset.univ fun h : Fin 3 => dutyTok ER (sendC c h) 0 false)
    ∗ (bigSep Finset.univ fun h : Fin 3 => dutyTok ER (recvC (nxt c) h) 0 false)
    ∗ (bigSep Finset.univ fun p : Fin 2 => dutyTok ER (copyC c p) 0 false)
    ∗ (bigSep Finset.univ fun p : Fin 2 => dutyTok ER (copyC c p) 1 false))
/-- Its place in the protocol: at round 0 of each of its cells, with those tokens. -/
def linear (c : Dev nD) : sProp 𝕄 :=
  iprop((bigSep Finset.univ fun k : Fin 9 => atPos ER (kcell (c, k)) 0 ∅ 0) ∗ payToks c)
/-- The credit it waits with: two units of its barrier cell, a slot's of each receive cell. -/
def credits (c : Dev nD) : sProp 𝕄 :=
  iprop(cred (tallyAt (barC c) () 2) ∗ bigSep Finset.univ fun h : Fin 3 => cred (tallyAt (recvC c h) () N))

def start (c : Dev nD) : sProp 𝕄 :=
  iprop((∃ K, records m K ∗ linear c) ∗ credits c ∗ levAts L lv ∗ whole c main_v1 (m ((c : Thread nD τ).loc main_v1)))
def Φ₀ (c : Dev nD) : sProp 𝕄 := iprop(start m c ∗ (∃ f, whole c cc0_scratch0 f) ∗ (∃ f, whole c cc0_scratch1 f))
def Φ₁ (c : Dev nD) : sProp 𝕄 :=
  iprop((bigSep Finset.univ fun k : Fin 9 => semVal (kcell (c, k)) 0) ∗ whole c main_v1 (result m c)
    ∗ (∃ f, whole c cc0_scratch0 f) ∗ (∃ f, whole c cc0_scratch1 f))

set_option maxHeartbeats 1000000 in
/-- The body on device `c`, from its protocol share, its operands and its buffers to the written result. -/
theorem run_body (K : Dev nD × Fin 9 → ℕ) (c : Dev nD) (Kt : PUnit → sProp 𝕄) :
    iprop(ctx m K ∗ linear c ∗ credits c ∗ pend c (O₀ c)
        ∗ whole c main_v1 (m ((c : Thread nD τ).loc main_v1)) ∗ (∃ f, whole c cc0_scratch0 f) ∗ (∃ f, whole c cc0_scratch1 f)
        ∗ whole c cc0_stg0_0 (xBlk m c) ∗ whole c cc0_stg1_0 (wBlk m c) ∗ whole c cc0_stg2_0 (sxBlk m c) ∗ whole c cc0_stg3_0 (swBlk m c))
      ⊢ iprop(((Φ₁ m c ∗ pend c 0
            ∗ whole c cc0_stg0_0 (xBlk m c) ∗ whole c cc0_stg1_0 (wBlk m c) ∗ whole c cc0_stg2_0 (sxBlk m c) ∗ whole c cc0_stg3_0 (swBlk m c)) -∗ Kt ⟨⟩)
        -∗ WP c (cc0_body xM (Memref.isWhole_whole _) wM (Memref.isWhole_whole _) sxM (Memref.isWhole_whole _) swM (Memref.isWhole_whole _) oM (Memref.isWhole_whole _)
      cM (Memref.isWhole_whole _) yM (Memref.isWhole_whole _) cc0_scratch2 cc0_scratch3 cc0_scratch4) Kt) := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, wp_bind, Prog.lift, copy_sem0, copy_sem1]
  unfold linear credits payToks
  rw [cells_eq c (fun g => atPos ER g 0 ∅ 0)]
  simp only [bigSep2, bigSep3]
  iintro ⟨#Hc, ⟨⟨HaB, HaS0, HaS1, HaS2, HaR0, HaR1, HaR2, HaC0, HaC1⟩, HtP, HtN, ⟨HtS0, HtS1, HtS2⟩, ⟨HtR0, HtR1, HtR2⟩, ⟨HtC0, HtC1⟩, HtD0, HtD1⟩,
    ⟨HcB, HcR0, HcR1, HcR2⟩, HO, Hout, ⟨%f0, Hcomm⟩, ⟨%f1, Hy⟩, Hx, Hw, Hsx, Hsw⟩ Hk
  ihave Hcomm := ((comm_cut c f0).trans (Entails.of_eq (bigSep4 _))) $$ Hcomm
  icases Hcomm with ⟨H0, H1, H2, H3⟩
  ihave Hy := ((tiles_cut c f1).trans (Entails.of_eq (bigSep2 _))) $$ Hy
  icases Hy with ⟨Hy0, Hy1⟩
  ihave Hout := ((bands_cut c _).trans (Entails.of_eq (bigSep4 _))) $$ Hout
  icases Hout with ⟨Hb0, Hb1, Hb2, Hb3⟩
  iapply (run_part1 m K c) $$ [HO HtP HtN HcB HaB Hx Hsx Hsw H0 H1 H2 H3]
  · isplitr; · iexact Hc
    isplitl [HO]; · iexact HO
    isplitl [HtP]; · iexact HtP
    isplitl [HtN]; · iexact HtN
    isplitl [HcB]; · iexact HcB
    isplitl [HaB]; · iexact HaB
    isplitl [Hx]; · iexact Hx
    isplitl [Hsx]; · iexact Hsx
    isplitl [Hsw]; · iexact Hsw
    isplitl [H0]; · iexact H0
    isplitl [H1]; · iexact H1
    isplitl [H2] <;> iassumption
  iintro %v2 %v6 ⟨HO, HzB, Hx, Hsx, Hsw, Hs, H1, H2, H3⟩
  dsimp only
  iapply (run_part2 m K c v2) $$ [HO Hs H1 HtS0 HtR0 HtC0 Hw Hy0 Hb3]
  · isplitr; · iexact Hc
    isplitl [HO]; · iexact HO
    isplitl [Hs]; · iexact Hs
    isplitl [H1]; · iexact H1
    isplitl [HtS0]; · iexact HtS0
    isplitl [HtR0]; · iexact HtR0
    isplitl [HtC0]; · iexact HtC0
    isplitl [Hw]; · iexact Hw
    isplitl [Hy0] <;> iassumption
  iintro ⟨HO, HcS0, Hs, HcC0, Hw⟩
  iapply (run_part3 m K c v2 v6) $$ [HO HcS0 HaS0 Hs HcR0 HaR0 H2 HtS1 HtR1]
  · isplitr; · iexact Hc
    isplitl [HO]; · iexact HO
    isplitl [HcS0]; · iexact HcS0
    isplitl [HaS0]; · iexact HaS0
    isplitl [Hs]; · iexact Hs
    isplitl [HcR0]; · iexact HcR0
    isplitl [HaR0]; · iexact HaR0
    isplitl [H2]; · iexact H2
    isplitl [HtS1] <;> iassumption
  iintro %v81 ⟨HO, HzS0, Hs0, HzR0, HcS1, Hs⟩
  dsimp only
  iapply (run_part4 m K c v81) $$ [Hw Hy1 Hb2 HtC1 HO HcS1 HaS1 Hs]
  · isplitr; · iexact Hc
    isplitl [Hw]; · iexact Hw
    isplitl [Hy1]; · iexact Hy1
    isplitl [Hb2]; · iexact Hb2
    isplitl [HtC1]; · iexact HtC1
    isplitl [HO]; · iexact HO
    isplitl [HcS1]; · iexact HcS1
    isplitl [HaS1] <;> iassumption
  iintro %b ⟨HO, Hw, HcC1, HzS1, Hs1⟩
  iapply (run_part5 m K c v2 v6 b) $$ [HO HcR1 HaR1 H3 HtS2 HtR2 HcC0 HaC0 Hw]
  · isplitr; · iexact Hc
    isplitl [HO]; · iexact HO
    isplitl [HcR1]; · iexact HcR1
    isplitl [HaR1]; · iexact HaR1
    isplitl [H3]; · iexact H3
    isplitl [HtS2]; · iexact HtS2
    isplitl [HtR2]; · iexact HtR2
    isplitl [HcC0]; · iexact HcC0
    isplitl [HaC0] <;> iassumption
  iintro %v136 ⟨HO, HzR1, HcS2, Hs, HaC0, #HrC0, Hb3, Hy0, Hw⟩
  dsimp only
  iapply (run_part6 m K c v6 v136) $$ [Hy0 Hb1 HtD0 HO HcS2 HaS2 Hs]
  · isplitr; · iexact Hc
    isplitl [Hy0]; · iexact Hy0
    isplitl [Hb1]; · iexact Hb1
    isplitl [HtD0]; · iexact HtD0
    isplitr; · iexact HrC0
    isplitl [HO]; · iexact HO
    isplitl [HcS2]; · iexact HcS2
    isplitl [HaS2] <;> iassumption
  iintro ⟨HO, HcC0, HzS2, Hs2⟩
  iapply (run_part7 m K c v2) $$ [HO HcR2 HaR2 HcC1 HaC1 Hw]
  · isplitr; · iexact Hc
    isplitl [HO]; · iexact HO
    isplitl [HcR2]; · iexact HcR2
    isplitl [HaR2]; · iexact HaR2
    isplitl [HcC1]; · iexact HcC1
    isplitl [HaC1] <;> iassumption
  iintro ⟨HO, HzR2, Hs3, HaC1, HrC1, Hb2, Hy1, Hw⟩
  -- the last tile goes out, and both copies are waited for
  iapply (wp_copy_out m K c 1 1 3 rfl 0 rfl) $$ [Hy1 Hb0 HtD1 HrC1]
  · isplitr; · iexact Hc
    isplitl [Hy1]; · iexact Hy1
    isplitl [Hb0]; · iexact Hb0
    isplitl [HtD1]; · iexact HtD1
    iexact HrC1
  iintro HcC1
  iapply (wp_done c)
  iapply (wp_wait_copy m K c 0 1 2 rfl 1 rfl (owed c 3) (above_zero 0) (dst := bandM c 1) rfl) $$ [HO HcC0 HaC0]
  · isplitr; · iexact Hc
    isplitl [HcC0]; · iexact HcC0
    isplitl [HO]; · iexact HO
    iexact HaC0
  iintro ⟨HO, HaC0, -, Hb1, Hy0⟩
  iapply (wp_done c)
  iapply (wp_wait_copy m K c 1 1 3 rfl 0 rfl (owed c 3) (above_zero 0) (dst := bandM c 0) rfl) $$ [HO HcC1 HaC1]
  · isplitr; · iexact Hc
    isplitl [HcC1]; · iexact HcC1
    isplitl [HO]; · iexact HO
    iexact HaC1
  iintro ⟨HO, HaC1, -, Hb0, Hy1⟩
  iapply (wp_done c)
  imod (close_copy m K c 0) $$ [HaC0] with HzC0
  · isplitr; · iexact Hc
    iexact HaC0
  imod (close_copy m K c 1) $$ [HaC1] with HzC1
  · isplitr; · iexact Hc
    iexact HaC1
  iapply (wp_done c)
  iapply Hk
  unfold Φ₁
  rw [cells_eq c (fun g => semVal g 0)]
  isplitl [HzB HzS0 HzS1 HzS2 HzR0 HzR1 HzR2 HzC0 HzC1 Hb0 Hb1 Hb2 Hb3 Hs0 Hs1 Hs2 Hs3 Hy0 Hy1]
  · isplitl [HzB HzS0 HzS1 HzS2 HzR0 HzR1 HzR2 HzC0 HzC1]
    · isplitl [HzB]; · iexact HzB
      isplitl [HzS0]; · iexact HzS0
      isplitl [HzS1]; · iexact HzS1
      isplitl [HzS2]; · iexact HzS2
      isplitl [HzR0]; · iexact HzR0
      isplitl [HzR1]; · iexact HzR1
      isplitl [HzR2]; · iexact HzR2
      isplitl [HzC0] <;> iassumption
    isplitl [Hb0 Hb1 Hb2 Hb3]
    · iapply ((Entails.of_eq (bigSep_congr fun r _ => congrArg (own c (bandM c r) fullShare) (result_band m c r)).symm).trans (bands_join c (result m c)))
      rw [bigSep4]
      isplitl [Hb0]; · iexact Hb0
      isplitl [Hb1]; · iexact Hb1
      isplitl [Hb2]; · iexact Hb2
      iexact Hb3
    isplitl [Hs0 Hs1 Hs2 Hs3]
    · iapply (comm_join c f0)
      rw [bigSep4]
      isplitl [Hs0]; · iexact Hs0
      isplitl [Hs1]; · iexact Hs1
      isplitl [Hs2]; · iexact Hs2
      iapply (held_of_own c (slotM 3) (slotX m c 3)); iexact Hs3
    · iapply (tiles_join c f1)
      rw [bigSep2]
      isplitl [Hy0] <;> iassumption
  isplitl [HO]; · iexact HO
  isplitl [Hx]; · iexact Hx
  isplitl [Hw]; · iexact Hw
  isplitl [Hsx] <;> iassumption

end Cert.KernelIdeal.RingProof

end
-- ==== Proof.KernelIdeal.Obligation.lean ====
/-
The pipeline's proof data for the ring — the four operands staged whole and left as they are, the device's share of the
protocol before the body and its result after it — and the obligation the launch asks of the body.
-/
module

public import proofs.«01_k».proof.Proof.KernelIdeal.Body
public import proofs.«01_k».proof.Proof.Gen.KernelIdeal.Launch
public import proofs.«01_k».proof.Proof.Gen.KernelIdeal.Points

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is staged: each operand's block, before the body and after it; what the body starts from and ends with. -/
def dats (_ : Fin 1) (c : Dev nD) : Dat τ (Elt F) Unit ℕ UU ℕ cfg0 c where
  A w := m ((cfg0.win w).arr.view.loc (c : Thread nD τ))
  after w _ := match w with
    | ⟨0, _⟩ => xBlk m c
    | ⟨1, _⟩ => wBlk m c
    | ⟨2, _⟩ => sxBlk m c
    | ⟨3, _⟩ => swBlk m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A whole staging buffer owned at contents `X` is its points-to at `X`. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whole c b f) := by
  unfold owns; simp only [Memref.view_whole, View.read_whole, View.set_whole]

/-- A staging buffer of contents `X`. -/
abbrev staged (c : Dev nD) (b : Ref sig .tc) (X : b.ty.Contents (Elt F)) : sProp 𝕄 :=
  iprop(∃ f : Buf (Elt F) ((c : Thread nD τ).loc b), ⌜f = X⌝ ∗ whole c b f)

set_option maxRecDepth 4000 in
def bodyPre (c : Dev nD) : sProp 𝕄 :=
  iprop(Φ₀ m c ∗ (dats m 0 c).owesAt () t0_0.castSucc
    ∗ (∃ d, staged c cc0_stg0_0 ((dats m 0 c).before (0 : Fin 4) t0_0 d))
    ∗ (∃ d, staged c cc0_stg1_0 ((dats m 0 c).before (1 : Fin 4) t0_0 d))
    ∗ (∃ d, staged c cc0_stg2_0 ((dats m 0 c).before (2 : Fin 4) t0_0 d))
    ∗ (∃ d, staged c cc0_stg3_0 ((dats m 0 c).before (3 : Fin 4) t0_0 d)))
def bodyPost (c : Dev nD) : sProp 𝕄 :=
  iprop(Φ₁ m c ∗ (dats m 0 c).owesAt () t0_0.succ
    ∗ staged c cc0_stg0_0 (xBlk m c) ∗ staged c cc0_stg1_0 (wBlk m c)
    ∗ staged c cc0_stg2_0 (sxBlk m c) ∗ staged c cc0_stg3_0 (swBlk m c))

/-! Each operand is fetched before the body runs. -/

theorem before_x (c : Dev nD) (d) : (dats m 0 c).before (0 : Fin 4) t0_0 d = xBlk m c := by
  unfold Dat.before; rw [if_pos (fetch0_0 t0_0)]; rfl
theorem before_w (c : Dev nD) (d) : (dats m 0 c).before (1 : Fin 4) t0_0 d = wBlk m c := by
  unfold Dat.before; rw [if_pos (fetch0_1 t0_0)]; rfl
theorem before_sx (c : Dev nD) (d) : (dats m 0 c).before (2 : Fin 4) t0_0 d = sxBlk m c := by
  unfold Dat.before; rw [if_pos (fetch0_2 t0_0)]; rfl
theorem before_sw (c : Dev nD) (d) : (dats m 0 c).before (3 : Fin 4) t0_0 d = swBlk m c := by
  unfold Dat.before; rw [if_pos (fetch0_3 t0_0)]; rfl

/-- The body's run, between what the pipeline hands it and what it hands back. -/
theorem run_staged (c : Dev nD) :
    bodyPre m c ⊢ WP c (cc0_body xM (Memref.isWhole_whole _) wM (Memref.isWhole_whole _) sxM (Memref.isWhole_whole _) swM (Memref.isWhole_whole _) oM (Memref.isWhole_whole _)
      cM (Memref.isWhole_whole _) yM (Memref.isWhole_whole _) cc0_scratch2 cc0_scratch3 cc0_scratch4) (fun _ => bodyPost m c) := by
  unfold bodyPre Φ₀ start
  simp only [before_x, before_w, before_sx, before_sw]
  iintro ⟨⟨⟨⟨%K, #Hrec, Hlin⟩, Hcr, #Hlev, Hout⟩, Hs0, Hs1⟩, Ho, ⟨%d0, %f0, %e0, Hx⟩, ⟨%d1, %f1, %e1, Hw⟩, ⟨%d2, %f2, %e2, Hsx⟩, ⟨%d3, %f3, %e3, Hsw⟩⟩
  subst e0; subst e1; subst e2; subst e3
  unfold Dat.owesAt Pipeline.owesWithin
  icases Ho with ⟨%W, -, HO⟩
  iapply (run_body m K c (fun _ => bodyPost m c)) $$ [Hlin Hcr Hout Hs0 Hs1 HO Hx Hw Hsx Hsw]
  · isplitr
    · unfold ctx; isplitl; · iexact Hrec
      iexact Hlev
    isplitl [Hlin]; · iexact Hlin
    isplitl [Hcr]; · iexact Hcr
    isplitl [HO]
    · unfold pend; iexists W; iexact HO
    isplitl [Hout]; · iexact Hout
    isplitl [Hs0]; · iexact Hs0
    isplitl [Hs1]; · iexact Hs1
    isplitl [Hx]; · iexact Hx
    isplitl [Hw]; · iexact Hw
    isplitl [Hsx] <;> iassumption
  iintro ⟨HΦ, HO, Hx, Hw, Hsx, Hsw⟩
  unfold bodyPost Dat.owesAt Pipeline.owesWithin pend
  icases HO with ⟨%W, HO⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  iexists _; isplitr; · (ipureintro; rfl)
  iexact Hsw

set_option maxRecDepth 4000 in
/-- The obligation at the one grid point. -/
theorem body_obligation (c : Dev nD) : BodyObligation (dats m 0 c) (defs₀ (F := F)) 𝒱₀ () Set.univ := fun t => by
  rw [fin_N0 t]
  rw [bigSep_W0, bigSep_W0]
  simp only [owns_staged]
  exact run_staged m c

end Cert.KernelIdeal.RingProof

end
-- ==== Proof.KernelIdeal.Launch.lean ====
/-
The launch: the protocol's ghost state is made for all four devices at once and dealt around the ring, the credits each
device waits with are those the others owe at the start, and the whole program's run follows: every device's result
array ends at `result`, its operands as they were, every semaphore at zero.
-/
module

public import proofs.«01_k».proof.Proof.KernelIdeal.Obligation
public import Idealize.ShloMosaic.Lib.Pipeline.Launch
public import Idealize.ShloMosaic.Lib.Pipeline.CollectiveSegs

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev EP : Emb (UR sig nD τ) (MT nD τ sig Unit (Elt F) ℕ UU ℕ) := embL

theorem ownSemFacts : Pipeline.OwnSemFacts cfg0.spec osem := by decide

theorem share_eq (c : Dev nD) (w : Fin cfg0.W) : (dats m 0 c).share w = fullShare := by unfold Dat.share; split <;> rfl

/-! ## The cells and the duty tokens -/

theorem csem_injective : Function.Injective csem := by decide

theorem kcell_injective : Function.Injective kcell := by
  rintro ⟨c, k⟩ ⟨d, l⟩ h
  have hc : c = d := congrArg (fun g : GSem nD τ sig => g.1.1) h
  have hk : k = l := csem_injective (congrArg Prod.snd h)
  rw [hc, hk]

def ringCells : Finset (GSem nD τ sig) := Finset.univ.map ⟨kcell, kcell_injective⟩

/-- The twelve duties of a device's own cells — cell, round, duty: the barrier's two, one of each transfer cell, and one
    in each of the copy cells' two rounds. -/
def duty : Fin 12 → Fin 9 × ℕ × Bool :=
  ![(0, 0, false), (0, 0, true), (sendK 0, 0, false), (sendK 1, 0, false), (sendK 2, 0, false), (recvK 0, 0, false), (recvK 1, 0, false),
    (recvK 2, 0, false), (copyK 0, 0, false), (copyK 1, 0, false), (copyK 0, 1, false), (copyK 1, 1, false)]
theorem duty_injective : Function.Injective duty := by decide

def tokOf (cj : Dev nD × Fin 12) : GSem nD τ sig × ℕ × Bool := (kcell (cj.1, (duty cj.2).1), (duty cj.2).2)
theorem tokOf_injective : Function.Injective tokOf := by
  rintro ⟨c, j⟩ ⟨d, l⟩ h
  have h1 := kcell_injective (congrArg Prod.fst h)
  have h2 : (duty j).2 = (duty l).2 :=
    (Prod.mk.inj (show (kcell (c, (duty j).1), (duty j).2) = (kcell (d, (duty l).1), (duty l).2) from h)).2
  have hc : c = d := congrArg Prod.fst h1
  have hd : duty j = duty l := Prod.ext (congrArg Prod.snd h1) h2
  rw [hc, duty_injective hd]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop(dutyTok ER (barC c) 0 true ∗ dutyTok ER (barC c) 0 false
    ∗ (bigSep Finset.univ fun h : Fin 3 => dutyTok ER (sendC c h) 0 false)
    ∗ (bigSep Finset.univ fun h : Fin 3 => dutyTok ER (recvC c h) 0 false)
    ∗ (bigSep Finset.univ fun p : Fin 2 => dutyTok ER (copyC c p) 0 false)
    ∗ (bigSep Finset.univ fun p : Fin 2 => dutyTok ER (copyC c p) 1 false))

theorem bigSep12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem toks_intro (c : Dev nD) :
    (bigSep Finset.univ fun j : Fin 12 => (dutyTok ER (tokOf (c, j)).1 (tokOf (c, j)).2.1 (tokOf (c, j)).2.2 : sProp 𝕄)) ⊢ toks c := by
  rw [bigSep12]
  unfold toks
  simp only [bigSep2, bigSep3]
  iintro ⟨H0, H1, H2, H3, H4, H5, H6, H7, H8, H9, HA, HB⟩
  isplitl [H1]; · iexact H1
  isplitl [H0]; · iexact H0
  isplitl [H2 H3 H4]
  · isplitl [H2]; · iexact H2
    isplitl [H3]; · iexact H3
    iexact H4
  isplitl [H5 H6 H7]
  · isplitl [H5]; · iexact H5
    isplitl [H6]; · iexact H6
    iexact H7
  isplitl [H8 H9]
  · isplitl [H8]; · iexact H8
    iexact H9
  isplitl [HA]; · iexact HA
  iexact HB

/-! ## Dealing the ghost state -/

/-- What the launch element deals device `c`, -/
def G (c : Dev nD) : sProp 𝕄 :=
  iprop((bigSep Finset.univ fun k : Fin 9 => roundState ER (Rd m) (kcell (c, k)) 0)
    ∗ (bigSep Finset.univ fun k : Fin 9 => iprop(atPos ER (kcell (c, k)) 0 ∅ 0 ∗ reached ER (kcell (c, k)) 0)) ∗ toks c)
/-- and what the step over all devices makes of it. -/
def G' (c : Dev nD) : sProp 𝕄 := iprop(∃ K, records m K ∗ linear c)

theorem fund_ring : BI.own (ER (initOf ringCells ringToks)) ⊢ (|==> bigSep Finset.univ (G m) : sProp 𝕄) := by
  have hC (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (Rd m) ringCells ringToks) $$ HX with ⟨Hst, Hr, Hat, Htok⟩
  imodintro
  ihave Hst' := (Entails.of_eq (hC fun g => roundState ER (Rd m) g 0)) $$ Hst
  ihave Hat' := (Entails.of_eq (hC fun g => atPos ER g 0 ∅ 0)) $$ Hat
  ihave Hr' := (Entails.of_eq (hC fun g => reached ER g 0)) $$ Hr
  ihave Htok' := hT $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendC c 0) 0 ∗ semVal (sendC c 1) 0 ∗ semVal (sendC c 2) 0 ∗ semVal (recvC c 0) 0 ∗ semVal (recvC c 1) 0 ∗ semVal (recvC c 2) 0
        ∗ semVal (copyC c 0) 0 ∗ semVal (copyC c 1) 0) := by
  rw [Pipeline.ownSems0_eq_of_list c osem [0, 1, 2, 3, 4, 5, 6, 7] (by decide) (by decide)]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

/-- The barrier semaphore and the kernel's own eight are the nine cells' counters. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 9 => semVal (kcell (c, k)) 0 : sProp 𝕄) := by
  rw [ownSems0_eq, unscopedSems0_eq, cells_eq c (fun g => semVal g 0)]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 9 => semVal (kcell (c, k)) 0) ∗ bigSep Finset.univ fun k : Fin 9 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens go round the ring: a barrier's `true` token to the next device, whose first signal pays it; its `false`
    token and the receive cells' to the previous one. -/
theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok ER (barC c) 0 true : sProp 𝕄)),
    bigSep_univ_equiv ring (fun c : Dev nD => (dutyTok ER (barC c) 0 false : sProp 𝕄)),
    bigSep_univ_equiv ring (fun c : Dev nD => (bigSep Finset.univ fun h : Fin 3 => dutyTok ER (recvC c h) 0 false : sProp 𝕄))]
  exact Entails.refl _

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_intro (K : Dev nD × Fin 9 → ℕ) (c : Dev nD) : iprop(records m K ∗ linear c) ⊢ G' m c :=
  exists_intro_trans K (Entails.refl _)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (Rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (Rd m) κ (kcell ck) : sProp 𝕄))) $$ HI
  icases HK with ⟨%K, #HI⟩
  ihave Htk := (toks_around (F := F)) $$ Htok
  iapply (bigSep_with (R := records m K) fun c _ => share_intro m K c)
  isplitr
  · unfold records; isplitl; · iexact HI
    iexact HR
  · iapply (Entails.of_eq (bigSep_sep' Finset.univ (fun c : Dev nD => bigSep Finset.univ fun k : Fin 9 => (atPos ER (kcell (c, k)) 0 ∅ 0 : sProp 𝕄)) payToks).symm)
    isplitl [Hat]; · iexact Hat
    iexact Htk

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem cell_eq_iff {a b : Dev nD} {k l : Fin 9} : Iff (kcell (a, k) = kcell (b, l)) (a = b ∧ k = l) :=
  ⟨fun h => by have := kcell_injective h; exact ⟨congrArg Prod.fst this, congrArg Prod.snd this⟩, fun h => by rw [h.1, h.2]⟩

theorem eq_nxt (c d : Dev nD) : (c = nxt d) = (d = prv c) :=
  propext ⟨fun h => by rw [h, prv_nxt], fun h => by rw [h, nxt_prv]⟩
theorem eq_prv (c d : Dev nD) : (c = prv d) = (d = nxt c) :=
  propext ⟨fun h => by rw [h, nxt_prv], fun h => by rw [h, prv_nxt]⟩

/-- What device `d` owes cell `k` of device `c` at the start, term by term. -/
theorem owed_cell (d c : Dev nD) (k : Fin 9) : O₀ d (kcell (c, k)) ()
    = (if d = prv c ∧ k = recvK 2 then N else 0) + (if d = prv c ∧ k = recvK 1 then N else 0) + (if d = prv c ∧ k = recvK 0 then N else 0)
      + (if d = prv c ∧ k = 0 then 1 else 0) + (if d = nxt c ∧ k = 0 then 1 else 0) := by
  have at_cell (e : Dev nD) (l : Fin 9) (n : ℕ) : (tallyAt (kcell (e, l)) () n : CellTallies nD τ sig Unit) (kcell (c, k)) ()
      = if c = e ∧ k = l then n else 0 := by
    rw [tallyAt_apply]
    exact if_congr ⟨fun h => cell_eq_iff.mp h.1, fun h => ⟨cell_eq_iff.mpr h, rfl⟩⟩ rfl rfl
  have hz : (0 : CellTallies nD τ sig Unit) (kcell (c, k)) () = 0 := rfl
  show ((((((0 : CellTallies nD τ sig Unit) + tallyAt (kcell (nxt d, recvK 2)) () N) + tallyAt (kcell (nxt d, recvK 1)) () N)
    + tallyAt (kcell (nxt d, recvK 0)) () N) + tallyAt (kcell (nxt d, 0)) () 1) + tallyAt (kcell (prv d, 0)) () 1) (kcell (c, k)) () = _
  simp only [Pi.add_apply, Finsupp.add_apply, at_cell, hz, Nat.zero_add, eq_nxt c d]
  simp only [eq_prv c d]

theorem launch_cell (c : Dev nD) (k : Fin 9) (n : ℕ) (h : ∑ d : Dev nD, O₀ d (kcell (c, k)) () = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

theorem sum_bar (c : Dev nD) : ∑ d : Dev nD, O₀ d (barC c) () = 2 := by
  refine (Finset.sum_congr rfl fun d _ => owed_cell d c 0).trans ?_
  have h (h : Fin 3) : ((0 : Fin 9) = recvK h) = False := eq_false (by revert h; decide)
  simp only [h, and_false, if_false, and_true, Nat.zero_add, Finset.sum_add_distrib, Finset.sum_ite_eq' Finset.univ _ fun _ => 1, Finset.mem_univ, if_true]

theorem sum_recv (c : Dev nD) (h : Fin 3) : ∑ d : Dev nD, O₀ d (recvC c h) () = N := by
  refine (Finset.sum_congr rfl fun d _ => owed_cell d c (recvK h)).trans ?_
  have h0 : (recvK h = (0 : Fin 9)) = False := eq_false (by revert h; decide)
  have hk (l : Fin 3) : (recvK h = recvK l) = (h = l) := propext (by revert h l; decide)
  simp only [h0, hk, and_false, if_false, Nat.add_zero]
  have hf (d : Dev nD) : (if d = prv c ∧ h = 2 then N else 0) + (if d = prv c ∧ h = 1 then N else 0) + (if d = prv c ∧ h = 0 then N else 0)
      = if d = prv c then N else 0 := by
    by_cases hd : d = prv c
    · fin_cases h <;> simp [hd]
    · simp [hd]
  rw [Finset.sum_congr rfl fun d _ => hf d, Finset.sum_ite_eq' Finset.univ (prv c) fun _ => N, if_pos (Finset.mem_univ _)]

theorem creds (c : Dev nD) : (Pipeline.launchCred O₀ c : sProp 𝕄) ⊢ credits c := by
  unfold Pipeline.launchCred credits
  have hc (k : Fin 9) (n : ℕ) (h : ∑ d : Dev nD, O₀ d (kcell (c, k)) () = n) :
      cred (tallyOn (kcell (c, k)) (launchCredit (Pipeline.owing O₀) 0 (kcell (c, k)))) ⊢ (cred (tallyAt (kcell (c, k)) () n) : sProp 𝕄) :=
    Entails.of_eq (congrArg _ (launch_cell c k n h))
  refine BIBase.Entails.trans (BI.bigSep_subset (Finset.subset_univ (Finset.univ.map ⟨csem, csem_injective⟩))) ?_
  rw [bigSep_map]
  refine BIBase.Entails.trans (Entails.of_eq (bigSep9 _)) ?_
  rw [bigSep3]
  iintro ⟨HB, -, -, -, H0, H1, H2, -, -⟩
  isplitl [HB]; · iapply (hc 0 2 (sum_bar c)); iexact HB
  isplitl [H0]; · iapply (hc (recvK 0) N (sum_recv c 0)); iexact H0
  isplitl [H1]; · iapply (hc (recvK 1) N (sum_recv c 1)); iexact H1
  iapply (hc (recvK 2) N (sum_recv c 2)); iexact H2

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hrest, Hlev, Hcr, -, HG⟩
  ihave Hc := (creds (F := F) c) $$ Hcr
  ihave Ho := (Entails.of_eq ((Pipeline.unscopedRestP_none cfg0.spec c (fun b => m ((c : Thread nD τ).loc b))).trans
    (unscopedRest0_eq c (fun b => m ((c : Thread nD τ).loc b))))) $$ Hrest
  imodintro
  unfold start G'
  isplitl
  · isplitl [HG]; · iexact HG
    isplitl [Hc]; · iexact Hc
    isplitl [Hlev]; · iexact Hlev
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

/-- What device `c` ends with outside the pipeline's own cells: the barrier semaphore at zero and the result. -/
def done (c : Dev nD) : sProp 𝕄 := iprop(unscopedSems0 c ∗ whole c main_v1 (result m c))

theorem phi1_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = Φ₁ m c from rfl, scopedRest0_eq]
  unfold Φ₁ done
  rw [← sems0_eq]
  iintro ⟨⟨HB, HS⟩, Hout, H0, H1⟩
  isplitl [HB Hout]
  · isplitl [HB]; · iexact HB
    iexact Hout
  isplitl [HS]; · iexact HS
  isplitl [H0]; · iexact H0
  iexact H1

/-- Before the body a device owes only cells above the staging semaphores, after it nothing. -/
theorem waits (c : Dev nD) : (levAts L lv : sProp 𝕄) ⊢ Pipeline.cellsWaits cfgs (dats m) () 0 c :=
  Pipeline.cellsWaits_intro cfgs (dats m) () 0 c fun w s t => by
    have hs : semLv (.dma ((cfg0.win w).sem s)) = 0 := by revert w s; decide
    refine mayWait c _ ?_
    rw [hs]
    rcases t with ⟨_ | _, ht⟩
    · exact above_O₀ c
    · exact above_zero 0

/-! ## The run -/

/-- What a final memory holds of device `c`'s own: unscoped semaphores at zero, the result array at `result`. -/
def Ends (c : Dev nD) (s : MemSt nD τ sig (Elt F)) : Prop :=
  (∀ sm : SemLoc sig, sm.isScoped .tc = false → s.sem ((c.tc : Thread nD τ), sm) = 0) ∧ s.mem ((c : Thread nD τ).loc main_v1) = result m c

theorem read_done (c : Dev nD) (s' : Phys nD τ sig (Elt F)) :
    iprop(done m c ∗ emp ∗ SI s') ⊢ |={Set.univ}=> iprop(⌜Ends m c s'.mem⌝ ∗ SI s') := by
  unfold done
  iintro ⟨⟨Hu, Hout⟩, -, HSI⟩
  ihave %hv := (SI_pointsTo_agree (st := s') (ℓ := (c : Thread nD τ).loc main_v1) (q := fullShare) (f := result m c)) $$ [HSI Hout]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => hv i (Finset.mem_univ i)⟩
  iexact HSI

/-- The contents the pipeline leaves in window `w`'s array. -/
def finalA (c : Dev nD) (w : Fin cfg0.W) : Buf (Elt F) ((cfg0.win w).arr.view.loc (c : Thread nD τ)) := (dats m 0 c).arrAt w cfg0.N

/-- What a run of the program ends with. -/
def Final (s : MemSt nD τ sig (Elt F)) : Prop :=
  (∀ c : Dev nD, (∀ w : Fin cfg0.W, s.mem ((cfg0.win w).arr.view.loc (c : Thread nD τ)) = finalA m c w)
    ∧ s.mem ((c : Thread nD τ).loc main_v1) = result m c) ∧ s.sem = fun _ => 0

set_option maxRecDepth 8000 in
/-- On four devices, for any float values, from any memory with every counter zero: every fair execution terminates
    without fault, and ends with each device's result array at `result`, the operands' arrays at `finalA` and every
    counter at zero. -/
theorem run_main : θ_run defs (onTc (τ := τ) (main (F := F))) (s₀ m ρ) (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m) (hout := phi1_exit m)
    (QY := Ends m) (hY := read_done m)
    (hQ := fun _ h hs => ⟨fun c => ⟨fun w => (h c).1 w, (h c).2.2.2⟩, sem_eq_zero hs fun c => (h c).2.2.1⟩)

/-! The four operands' arrays end as they were. -/

theorem final_x (c : Dev nD) : finalA m c (0 : Fin 4) = m ((c : Thread nD τ).loc main_arg0) := (dats m 0 c).arrAt_in (0 : Fin 4) rfl _
theorem final_w (c : Dev nD) : finalA m c (1 : Fin 4) = m ((c : Thread nD τ).loc main_arg1) := (dats m 0 c).arrAt_in (1 : Fin 4) rfl _
theorem final_sx (c : Dev nD) : finalA m c (2 : Fin 4) = m ((c : Thread nD τ).loc main_arg2) := (dats m 0 c).arrAt_in (2 : Fin 4) rfl _
theorem final_sw (c : Dev nD) : finalA m c (3 : Fin 4) = m ((c : Thread nD τ).loc main_arg3) := (dats m 0 c).arrAt_in (3 : Fin 4) rfl _

/-- The run, read at the program's own arrays: the result, the operands unchanged, every counter at zero. -/
theorem run_arrays : θ_run defs (onTc (τ := τ) (main (F := F))) (s₀ m ρ) (fun r =>
    (∀ c : Dev nD, r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨(h.1 c).2, ((h.1 c).1 (0 : Fin 4)).trans (final_x m c), ((h.1 c).1 (1 : Fin 4)).trans (final_w m c),
    ((h.1 c).1 (2 : Fin 4)).trans (final_sx m c), ((h.1 c).1 (3 : Fin 4)).trans (final_sw m c)⟩, h.2⟩) (run_main m ρ)

end Cert.KernelIdeal.RingProof

end
-- ==== Proof.ReferenceIdeal.WholeRun.lean ====
/- Hand-written, untrusted: the reference's result array as one function of its four arguments, at any float values. The
   reference has no grid: each window's block at the one point is the whole of its array (`at_x` … `at_out`), its body
   stores the whole result once (`stored`), and so the result array ends at that payload of the arguments (`run`). -/
module

public import proofs.«01_k».proof.Proof.Gen.ReferenceIdeal.Value

@[expose] public section

noncomputable section

namespace Cert.ReferenceIdeal.WholeRun

open Cert.ReferenceIdeal Cert.ReferenceIdeal.Gen Cert.ReferenceIdeal.Value Idealize.ShloMosaic Idealize.ShloMosaic.TcCoe Idealize.SL.Sem

variable {F : FTy → Type} [FloatOps F]

/-- The one place of a scale's array. -/
def place : S1.Idx := Shape.Idx.first (by decide)

theorem eq_place (i : S1.Idx) : i = place := by
  funext a; apply Fin.ext
  match a with
  | ⟨0, _⟩ =>
    have hi : (i 0).val < 1 := (i 0).isLt
    have hp : (place 0).val < 1 := (place 0).isLt
    show (i 0).val = (place 0).val
    omega

/-- The reference's result from `x`, `w` and the two scales. -/
def value (x : Vec F S4096x4096 .fp8e5m2) (w : Vec F S4096x8192 .fp8e5m2) (sx sw : Vec F S1 .f32) : Vec F S4096x8192 .f32 :=
  k0_pay1 x w (sx place) (sw place)

theorem origin : (![0, 0] : Fin 2 → Nat) = fun _ => 0 := funext fun a => by fin_cases a <;> rfl

/-- The body's one store leaves the value of what the input buffers hold in the result's buffer. -/
theorem stored (c : Dev nD) (a0 : Memref sig .tc .vmem S4096x4096 .fp8e5m2) (h0 : a0.IsWhole)
    (a1 : Memref sig .tc .vmem S4096x8192 .fp8e5m2) (h1 : a1.IsWhole) (a2 : Memref sig .tc .smem S1 .f32) (h2 : a2.IsWhole)
    (a3 : Memref sig .tc .smem S1 .f32) (h3 : a3.IsWhole) (a4 : Memref sig .tc .vmem S4096x8192 .f32) (h4 : a4.IsWhole)
    (x : Vec F S4096x4096 .fp8e5m2) (w : Vec F S4096x8192 .fp8e5m2) (sx sw : Vec F S1 .f32) :
    out0_A_4 c a0 h0 a1 h1 a2 h2 a3 h3 a4 h4 x w sx sw = value x w sx sw := by
  unfold out0_A_4
  rw [View.read_writes_junk_eq_canon]
  show View.canon ([⟨Rect.unit ![0, 0] S4096x8192.size inb_S4096x8192_S4096x8192_0_0,
      k0_pay1
        (View.readAt (Elt F) a0.view (Rect.unit ![0, 0] S4096x4096.size inb_S4096x4096_S4096x4096_0_0).toLoadRect (h0.unread x))
        (View.readAt (Elt F) a1.view (Rect.unit ![0, 0] S4096x8192.size inb_S4096x8192_S4096x8192_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x8192 .f32)) = _
  rw [View.canon_unit_zero origin, View.readAt_eq_ld, View.readAt_eq_ld, View.readAt_eq_ld, View.readAt_eq_ld, h0.read_unread,
    h1.read_unread, h2.read_unread, h3.read_unread, View.ld_unit_zero origin, View.ld_unit_zero origin]
  exact congrArg₂ (k0_pay1 x w) (congrArg sx (eq_place _)) (congrArg sw (eq_place _))

variable (m : (ℓ : Loc nD τ sig) → Buf (Elt F) ℓ) (ρ : Dev nD → PrngReg)

/-! At the one point an index of a window's block is the same index of its array. -/

theorem start_x : ∀ t : Fin cfg0.N, win0_0.index t (0 : Fin 2) = 0 ∧ win0_0.index t (1 : Fin 2) = 0 :=
  (by decide +kernel : ∀ t : Fin grid0.N, _)
theorem start_w : ∀ t : Fin cfg0.N, win0_1.index t (0 : Fin 2) = 0 ∧ win0_1.index t (1 : Fin 2) = 0 :=
  (by decide +kernel : ∀ t : Fin grid0.N, _)
theorem start_out : ∀ t : Fin cfg0.N, win0_4.index t (0 : Fin 2) = 0 ∧ win0_4.index t (1 : Fin 2) = 0 :=
  (by decide +kernel : ∀ t : Fin grid0.N, _)

theorem at_x (t : Fin cfg0.N) (j : S4096x4096.Idx) : ((cfg0.win 0).blk t).view.emb j = j := by
  obtain ⟨e0, e1⟩ := start_x t
  funext a; apply Fin.ext
  match a with
  | ⟨0, _⟩ => show win0_0.index t (0 : Fin 2) * 4096 + 1 * (j 0).val = (j 0).val; omega
  | ⟨1, _⟩ => show win0_0.index t (1 : Fin 2) * 4096 + 1 * (j 1).val = (j 1).val; omega

theorem at_w (t : Fin cfg0.N) (j : S4096x8192.Idx) : ((cfg0.win 1).blk t).view.emb j = j := by
  obtain ⟨e0, e1⟩ := start_w t
  funext a; apply Fin.ext
  match a with
  | ⟨0, _⟩ => show win0_1.index t (0 : Fin 2) * 4096 + 1 * (j 0).val = (j 0).val; omega
  | ⟨1, _⟩ => show win0_1.index t (1 : Fin 2) * 8192 + 1 * (j 1).val = (j 1).val; omega

theorem at_out (t : Fin cfg0.N) (j : S4096x8192.Idx) : ((cfg0.win 4).blk t).view.emb j = j := by
  obtain ⟨e0, e1⟩ := start_out t
  funext a; apply Fin.ext
  match a with
  | ⟨0, _⟩ => show win0_4.index t (0 : Fin 2) * 4096 + 1 * (j 0).val = (j 0).val; omega
  | ⟨1, _⟩ => show win0_4.index t (1 : Fin 2) * 8192 + 1 * (j 1).val = (j 1).val; omega

/-! So the input windows hold the argument arrays. -/

theorem in_x (c : Dev nD) (t : Fin cfg0.N) : iblk m c 0 t = V m c main_arg0 :=
  funext fun j => congrArg (V m c main_arg0) (at_x t j)
theorem in_w (c : Dev nD) (t : Fin cfg0.N) : iblk m c 1 t = V m c main_arg1 :=
  funext fun j => congrArg (V m c main_arg1) (at_w t j)
theorem in_sx (c : Dev nD) (t : Fin cfg0.N) : iblk m c 2 t = V m c main_arg2 :=
  funext fun j => congrArg (V m c main_arg2) ((eq_place _).trans (eq_place j).symm)
theorem in_sw (c : Dev nD) (t : Fin cfg0.N) : iblk m c 3 t = V m c main_arg3 :=
  funext fun j => congrArg (V m c main_arg3) ((eq_place _).trans (eq_place j).symm)

/-- What the point writes back is the result window's block of the value of the arguments. -/
theorem written (c : Dev nD) (t : Fin cfg0.N) : (dats m 0 c).flushed 4 t
    = ((cfg0.win 4).blk t).view.read (Elt F) (value (V m c main_arg0) (V m c main_arg1) (V m c main_arg2) (V m c main_arg3)) := by
  rw [flushed4_A, stored, in_x, in_w, in_sx, in_sw]
  exact funext fun j => (congrArg (value (V m c main_arg0) (V m c main_arg1) (V m c main_arg2) (V m c main_arg3)) (at_out t j)).symm

/-- Every place of the result array is in that block. -/
theorem reached (i : S4096x8192.Idx) : ∃ t : Fin cfg0.N, (cfg0.win 4).flush t = true ∧ i ∈ ((cfg0.win 4).blk t).view.set := by
  have t : Fin cfg0.N := ⟨0, by decide⟩
  have h := ((cfg0.win 4).blk t).view.emb_mem_set i
  rw [at_out] at h
  exact ⟨t, flush0_4 t, h⟩

/-- The result array ends at the value of the arguments. -/
theorem ends_at (c : Dev nD) : (dats m 0 c).arrAt 4 cfg0.N
    = value (m ((c : Thread nD τ).loc main_arg0)) (m ((c : Thread nD τ).loc main_arg1)) (m ((c : Thread nD τ).loc main_arg2))
        (m ((c : Thread nD τ).loc main_arg3)) := by
  rw [(dats m 0 c).arrAt_eq_of_cover 4 _ (fun t _ => written m c t) reached, V_main_arg0, V_main_arg1, V_main_arg2, V_main_arg3]

/-- Every run of the reference ends with its result at the value of its arguments, which are unchanged. -/
theorem run : θ_run defs (onTc (τ := τ) (main (F := F))) ⟨m, fun _ => 0, ρ⟩ fun r => ∀ c : Dev nD,
      r.2.mem ((c : Thread nD τ).loc main_v0)
        = value (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (ends_at m c), (h c).2⟩) (run_blocks m ρ)

end Cert.ReferenceIdeal.WholeRun

end
-- ==== Proof.Tile.lean ====
/- Hand-written, untrusted: the arithmetic both programs do at one place of the result, over the extended reals. Both take
   the sum of products of a row of `x` with a column of `w` (`dot`), scale it, and apply `y ↦ y / (1 + e^(-y))` (`silu`);
   the kernel multiplies by the reciprocal where the reference divides (`mul_recip`). Here are both programs' payloads read
   at a place in these terms (`tile_at`, `whole_at`). -/
module

public import proofs.«01_k».proof.Proof.Gen.KernelIdeal.Skeleton
public import proofs.«01_k».proof.Proof.KernelIdeal.Access
public import proofs.«01_k».proof.Proof.Gen.ReferenceIdeal.Skeleton
public import Idealize.ShloMosaic.Lib.MatmulPlain
public import Idealize.ShloMosaic.Lib.Pipeline.Value

@[expose] public section

noncomputable section

namespace Cert.Tile

open Idealize.ShloMosaic Idealize.ShloMosaic.ValueIdx

/-- The word of one is the number one. -/
theorem one_word : Ideal.ofBits .f32 0x3F800000#32 = 1 := by
  simp [Ideal.ofBits, Ideal.ieee, -EReal.coe_mul]; norm_num

/-- `y / (1 + e^(-y))`, as the reference computes it. -/
def silu (y : EReal) : EReal := Ideal.div y (1 + Ideal.exp (0 - y))

/-- An exponential is never negative, so one more than it is not zero. -/
theorem one_add_exp_ne (y : EReal) : (1 : EReal) + Ideal.exp y ≠ 0 := by
  have h : (0 : EReal) ≤ Ideal.exp y := by
    induction y using EReal.rec with
    | bot => exact le_refl _
    | coe r => exact EReal.coe_nonneg.mpr (Real.exp_pos r).le
    | top => exact le_top
  exact (lt_of_lt_of_le zero_lt_one (le_add_of_nonneg_right h)).ne'

/-- Multiplying by the reciprocal is dividing. -/
theorem mul_recip (y : EReal) : y * Ideal.div 1 (1 + Ideal.exp (0 - y)) = silu y := by
  unfold silu Ideal.div
  rw [if_neg (one_add_exp_ne _), if_neg (one_add_exp_ne _), one_mul]

/-- A row of `x` times a column of `w`. -/
def dot {M K N : ℕ} (x : FVec Ideal ⟨2, ![M, K]⟩ .fp8e5m2) (w : FVec Ideal ⟨2, ![K, N]⟩ .fp8e5m2) (r : Fin M) (c : Fin N) : EReal :=
  ∑ k : Fin K, x (ix2 r k) * w (ix2 k c)

/-- The matrix product of both programs, onto zero, at a place. -/
theorem product_at {M K N : ℕ} (x : FVec Ideal ⟨2, ![M, K]⟩ .fp8e5m2) (w : FVec Ideal ⟨2, ![K, N]⟩ .fp8e5m2) (r : Fin M) (c : Fin N) :
    FloatOps.matmul (DotDims.plain M K N) none x w (constant (F := Ideal) ⟨2, ![M, N]⟩ .f32 0x00000000#32) (ix2 r c) = dot x w r c := by
  rw [Ideal.matmul_plain_apply]
  exact (congrArg (· + dot x w r c) Ideal.ofBits_zero_f32).trans (zero_add _)

/-- The kernel's last steps at a place: negate, exponential, one added, reciprocal, product. -/
theorem mul_recip_at {s : Shape} (y : FVec Ideal s .f32) (i : s.Idx) :
    mulf y (divf (broadcast s (Scalar.ofBits (F := Ideal) .f32 0x3F800000#32))
      (addf (broadcast s (Scalar.ofBits (F := Ideal) .f32 0x3F800000#32))
        (exp (subf (broadcast s (Scalar.ofBits (F := Ideal) .f32 0x00000000#32)) y)))) i = silu (y i) := by
  show y i * Ideal.div (Ideal.ofBits .f32 0x3F800000#32)
    (Ideal.ofBits .f32 0x3F800000#32 + Ideal.exp (Ideal.ofBits .f32 0x00000000#32 - y i)) = _
  rw [one_word, Ideal.ofBits_zero_f32, mul_recip]

/-- The reference's last steps at a place: negate, exponential, one added, quotient. -/
theorem div_at {s : Shape} (y : FVec Ideal s .f32) (i : s.Idx) :
    divf y (addf (broadcast s (Scalar.ofBits (F := Ideal) .f32 0x3F800000#32))
        (exp (subf (broadcast s (Scalar.ofBits (F := Ideal) .f32 0x00000000#32)) y))) i = silu (y i) := by
  show Ideal.div (y i) (Ideal.ofBits .f32 0x3F800000#32 + Ideal.exp (Ideal.ofBits .f32 0x00000000#32 - y i)) = _
  rw [one_word, Ideal.ofBits_zero_f32, silu]

/-- The kernel's tile at a place. -/
theorem tile_at (s : EReal) (x : FVec Ideal Cert.KernelIdeal.S1024x4096 .fp8e5m2) (w : FVec Ideal Cert.KernelIdeal.S4096x2048 .fp8e5m2)
    (r : Fin 1024) (c : Fin 2048) :
    Cert.KernelIdeal.RingProof.flat (Cert.KernelIdeal.Gen.k0_pay5 (F := Ideal) s x w) (ix2 r c) = silu (dot x w r c * s) := by
  unfold Cert.KernelIdeal.RingProof.flat Cert.KernelIdeal.Gen.k0_pay5
  rw [shapeCast_shapeCast, shapeCast_self]
  exact (mul_recip_at _ _).trans (congrArg (fun d => silu (d * s)) (product_at (M := 1024) (K := 4096) (N := 2048) x w r c))

/-- The reference's result at a place. -/
theorem whole_at (x : FVec Ideal Cert.ReferenceIdeal.S4096x4096 .fp8e5m2) (w : FVec Ideal Cert.ReferenceIdeal.S4096x8192 .fp8e5m2)
    (sx sw : EReal) (r : Fin 4096) (c : Fin 8192) :
    Cert.ReferenceIdeal.Gen.k0_pay1 (F := Ideal) x w sx sw (ix2 r c) = silu (dot x w r c * (sx * sw)) := by
  unfold Cert.ReferenceIdeal.Gen.k0_pay1
  exact (div_at _ _).trans (congrArg (fun d => silu (d * (sx * sw))) (product_at (M := 4096) (K := 4096) (N := 8192) x w r c))

end Cert.Tile

end
-- ==== Proof.Gather.lean ====
/- Hand-written, untrusted: on four devices whose arguments are the blocks of whole arrays, each device's result is its block
   of columns of the reference's result (`result_block`). A row of the whole result belongs to the device that started with
   that row of `x`; that device's tile and the reference take the same sum there. -/
module

public import proofs.«01_k».proof.Proof.Tile
public import proofs.«01_k».proof.Proof.KernelIdeal.Launch
public import proofs.«01_k».proof.Proof.ReferenceIdeal.WholeRun
public import Idealize.ShloMosaic.Lib.Layout

@[expose] public section

noncomputable section

namespace Cert.Gather

open Idealize.ShloMosaic Idealize.ShloMosaic.ValueIdx Idealize.ShloMosaic.TcCoe Cert.KernelIdeal.RingProof

/-- The rows of `x` that start on device `d`, and the columns of `w` on device `c`. -/
abbrev rowsOf (d : Fin 4) (X : FVec Ideal ⟨2, ![4096, 4096]⟩ .fp8e5m2) : FVec Ideal ⟨2, ![1024, 4096]⟩ .fp8e5m2 :=
  Layout.block ⟨2, ![1024, 4096]⟩ ⟨2, ![4096, 4096]⟩ 0 4 d X
abbrev colsOf (c : Fin 4) (W : FVec Ideal ⟨2, ![4096, 8192]⟩ .fp8e5m2) : FVec Ideal ⟨2, ![4096, 2048]⟩ .fp8e5m2 :=
  Layout.block ⟨2, ![4096, 2048]⟩ ⟨2, ![4096, 8192]⟩ 1 4 c W

/-- A sum over a device's rows and another's columns is the whole arrays' sum at the row and column they stand for. -/
theorem dot_blocks (X : FVec Ideal ⟨2, ![4096, 4096]⟩ .fp8e5m2) (W : FVec Ideal ⟨2, ![4096, 8192]⟩ .fp8e5m2) (d c : Fin 4)
    (r : Fin 1024) (j : Fin 2048) (R : Fin 4096) (J : Fin 8192) (hR : R.val = d.val * 1024 + r.val) (hJ : J.val = c.val * 2048 + j.val) :
    Tile.dot (rowsOf d X) (colsOf c W) r j = Tile.dot X W R J := by
  refine Finset.sum_congr rfl fun k _ => congrArg₂ (· * ·) (congrArg X ?_) (congrArg W ?_)
  · funext a; apply Fin.ext
    match a with
    | ⟨0, _⟩ => exact hR.symm
    | ⟨1, _⟩ => rfl
  · funext a; apply Fin.ext
    match a with
    | ⟨0, _⟩ => rfl
    | ⟨1, _⟩ => exact hJ.symm

variable (m : (ℓ : Loc Cert.KernelIdeal.nD Cert.KernelIdeal.τ Cert.KernelIdeal.sig) → Buf (Elt Ideal) ℓ)

/-! What a device's windows hold is its argument arrays. -/

theorem xBlk_eq (c : Dev Cert.KernelIdeal.nD) :
    xBlk m c = m ((c.tc : Thread Cert.KernelIdeal.nD Cert.KernelIdeal.τ).loc Cert.KernelIdeal.main_arg0) :=
  Memref.read_access_unit_zero (Elt Ideal) Cert.KernelIdeal.main_arg0 (funext fun _ => Nat.zero_mul _) _ _

theorem wBlk_eq (c : Dev Cert.KernelIdeal.nD) :
    wBlk m c = m ((c.tc : Thread Cert.KernelIdeal.nD Cert.KernelIdeal.τ).loc Cert.KernelIdeal.main_arg1) :=
  Memref.read_access_unit_zero (Elt Ideal) Cert.KernelIdeal.main_arg1 (funext fun _ => Nat.zero_mul _) _ _

theorem sxBlk_eq (c : Dev Cert.KernelIdeal.nD) :
    sxBlk m c = m ((c.tc : Thread Cert.KernelIdeal.nD Cert.KernelIdeal.τ).loc Cert.KernelIdeal.main_arg2) :=
  Memref.read_access_unit_zero (Elt Ideal) Cert.KernelIdeal.main_arg2 (funext fun _ => Nat.zero_mul _) _ _

theorem swBlk_eq (c : Dev Cert.KernelIdeal.nD) :
    swBlk m c = m ((c.tc : Thread Cert.KernelIdeal.nD Cert.KernelIdeal.τ).loc Cert.KernelIdeal.main_arg3) :=
  Memref.read_access_unit_zero (Elt Ideal) Cert.KernelIdeal.main_arg3 (funext fun _ => Nat.zero_mul _) _ _

/-- If every device's arguments are its blocks of whole arrays, then device `c`'s result is its block of columns of the
    reference's value of those arrays. -/
theorem result_block (X : FVec Ideal ⟨2, ![4096, 4096]⟩ .fp8e5m2) (W : FVec Ideal ⟨2, ![4096, 8192]⟩ .fp8e5m2)
    (sx sw : FVec Ideal Cert.ReferenceIdeal.S1 .f32)
    (hx : ∀ c : Dev Cert.KernelIdeal.nD, m ((c.tc : Thread Cert.KernelIdeal.nD Cert.KernelIdeal.τ).loc Cert.KernelIdeal.main_arg0) = rowsOf c X)
    (hw : ∀ c : Dev Cert.KernelIdeal.nD, m ((c.tc : Thread Cert.KernelIdeal.nD Cert.KernelIdeal.τ).loc Cert.KernelIdeal.main_arg1) = colsOf c W)
    (hsx : ∀ c : Dev Cert.KernelIdeal.nD, m ((c.tc : Thread Cert.KernelIdeal.nD Cert.KernelIdeal.τ).loc Cert.KernelIdeal.main_arg2) = sx)
    (hsw : ∀ c : Dev Cert.KernelIdeal.nD, m ((c.tc : Thread Cert.KernelIdeal.nD Cert.KernelIdeal.τ).loc Cert.KernelIdeal.main_arg3) = sw)
    (c : Dev Cert.KernelIdeal.nD) :
    result m c = Layout.block ⟨2, ![4096, 2048]⟩ ⟨2, ![4096, 8192]⟩ 1 4 c (Cert.ReferenceIdeal.WholeRun.value (F := Ideal) X W sx sw) := by
  funext i
  have hi0 : (i 0).val < 4096 := (i 0).isLt
  have hi1 : (i 1).val < 2048 := (i 1).isLt
  have hc : c.val < 4 := c.isLt
  let r : Fin 1024 := ⟨(i 0).val % 1024, Nat.mod_lt _ (by decide)⟩
  let j : Fin 2048 := ⟨(i 1).val, hi1⟩
  let R : Fin 4096 := ⟨(i 0).val, hi0⟩
  let J : Fin 8192 := ⟨c.val * 2048 + (i 1).val, by omega⟩
  have hscl : scl m c = sx Cert.ReferenceIdeal.WholeRun.place * sw Cert.ReferenceIdeal.WholeRun.place := by
    unfold scl
    rw [sxBlk_eq, swBlk_eq, hsx, hsw]
    rfl
  have hl : result m c i = Tile.silu (Tile.dot (xBlk m (rowDev i)) (wBlk m c) r j * scl m c) := by
    have e : rowIdx i = ix2 r j := by
      funext a
      match a with
      | ⟨0, _⟩ => rfl
      | ⟨1, _⟩ => rfl
    unfold result
    rw [e]
    exact Tile.tile_at _ _ _ r j
  have hr : Layout.block ⟨2, ![4096, 2048]⟩ ⟨2, ![4096, 8192]⟩ 1 4 c (Cert.ReferenceIdeal.WholeRun.value (F := Ideal) X W sx sw) (by decide) i
      = Tile.silu (Tile.dot X W R J * (sx Cert.ReferenceIdeal.WholeRun.place * sw Cert.ReferenceIdeal.WholeRun.place)) := by
    refine Eq.trans (congrArg (Cert.ReferenceIdeal.WholeRun.value (F := Ideal) X W sx sw) ?_) (Tile.whole_at X W _ _ R J)
    funext a; apply Fin.ext
    match a with
    | ⟨0, _⟩ => rfl
    | ⟨1, _⟩ => rfl
  rw [hl, hr, hscl, xBlk_eq, wBlk_eq, hx, hw]
  rw [dot_blocks X W (rowDev i) c r j R J (by show (i 0).val = (i 0).val / 1024 * 1024 + (i 0).val % 1024; omega) rfl]

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.ReferenceIdeal.WholeRun
public import proofs.«01_k».proof.Proof.Gather
public import Idealize.ShloMosaic.Adequacy
public import Idealize.ShloMosaic.Init

@[expose] public section

noncomputable section

namespace Cert.Proof

open Idealize.ShloMosaic Idealize.SL.Sem Cert.Kernel

/-- The kernel as printed: every run ends, its arguments unchanged and every counter at zero. -/
theorem kernel_frame : quiescent_Kernel (hKernel := Cert.Kernel.Gen.facts) := fun m g _ =>
  (θ_run _ _ _).mono (fun _ h => ⟨fun c => (h.1 c).2, h.2⟩) (Cert.Kernel.RingProof.run_arrays (F := Bits) m g)

/-- The same of the kernel over the extended reals. -/
theorem kernelIdeal_frame : quiescent_KernelIdeal (hKernelIdeal := Cert.KernelIdeal.Gen.facts) := fun m g _ =>
  (θ_run _ _ _).mono (fun _ h => ⟨fun c => (h.1 c).2, h.2⟩) (Cert.KernelIdeal.RingProof.run_arrays (F := Ideal) m g)

/-- Each device's result is its block of columns of the reference's result. -/
theorem kernel_value : algebraic_KernelIdeal_ReferenceIdeal (hKernelIdeal := Cert.KernelIdeal.Gen.facts)
    (hReferenceIdeal := Cert.ReferenceIdeal.Gen.facts) := fun m g m' g' _ hin =>
  ⟨_, (θ_run _ _ _).mono (fun _ h c => ⟨(h.1 c).1.trans (Cert.Gather.result_block m _ _ _ _ (fun c => (hin c).1) (fun c => (hin c).2.1)
      (fun c => (hin c).2.2.1) (fun c => (hin c).2.2.2) c), (h.1 c).2⟩) (Cert.KernelIdeal.RingProof.run_arrays (F := Ideal) m g),
    (θ_run _ _ _).mono (fun _ h => h 0) (Cert.ReferenceIdeal.WholeRun.run (F := Ideal) m' g')⟩

theorem claim : Cert.Claim := ⟨Cert.Kernel.Gen.facts, Cert.KernelIdeal.Gen.facts, Cert.ReferenceIdeal.Gen.facts,
  kernel_frame, kernelIdeal_frame, fun m g _ => Cert.ReferenceIdeal.Gen.frame m g, trivial, kernel_value⟩

end Cert.Proof

end
